-- ==== Defs.lean ====
def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Amax_AmaxIdeal : Prop :=
  True

def preserves_Kernel_KernelIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v1) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v6) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hAmax : Cert.Amax.Facts) (hAmaxIdeal : Cert.AmaxIdeal.Facts) (hKernel : Cert.Kernel.Facts) (hKernelIdeal : Cert.KernelIdeal.Facts) (hAmaxReferenceIdeal : Cert.AmaxReferenceIdeal.Facts) (hReferenceIdeal : Cert.ReferenceIdeal.Facts),
    quiescent_Amax (hAmax := hAmax)
    ∧ quiescent_AmaxIdeal (hAmaxIdeal := hAmaxIdeal)
    ∧ quiescent_Kernel (hKernel := hKernel)
    ∧ quiescent_KernelIdeal (hKernelIdeal := hKernelIdeal)
    ∧ quiescent_AmaxReferenceIdeal (hAmaxReferenceIdeal := hAmaxReferenceIdeal)
    ∧ quiescent_ReferenceIdeal (hReferenceIdeal := hReferenceIdeal)
    ∧ preserves_Amax_AmaxIdeal
    ∧ preserves_Kernel_KernelIdeal
    ∧ algebraic_AmaxIdeal_AmaxReferenceIdeal (hAmaxIdeal := hAmaxIdeal) (hAmaxReferenceIdeal := hAmaxReferenceIdeal)
    ∧ algebraic_KernelIdeal_ReferenceIdeal (hKernelIdeal := hKernelIdeal) (hReferenceIdeal := hReferenceIdeal)
-- ==== Amax.lean ====
abbrev S2x4096x25600 : Shape := ⟨3, ![2, 4096, 25600]⟩
abbrev S8192x25600 : Shape := ⟨2, ![8192, 25600]⟩
abbrev S1x1 : Shape := ⟨2, ![1, 1]⟩
abbrev S128x25600 : Shape := ⟨2, ![128, 25600]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x25600, .bf16⟩
  | .hbm, ⟨1, _⟩ => ⟨S8192x25600, .bf16⟩
  | .hbm, ⟨2, _⟩ => ⟨S1x1, .f32⟩
  | .local _ .vmem, ⟨0, _⟩ => ⟨S128x25600, .bf16⟩
  | .local _ .vmem, ⟨1, _⟩ => ⟨S128x25600, .bf16⟩
  | .local _ .vmem, ⟨2, _⟩ => ⟨S1x1, .f32⟩
  | .local _ .vmem, ⟨3, _⟩ => ⟨S128x128, .bf16⟩
  | _, _ => ⟨S2x4096x25600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_1 : BitVec 32 := 0#32
  let c200_i32 : BitVec 32 := 200#32
  let v4 : BitVec 32 := Scalar.addi c0_i32_1 c200_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg4 : BitVec 32 := Scf.iv c0_i32_1 c1_i32 k0_t1
  let c128_i32 : BitVec 32 := 128#32
  let v14 : BitVec 32 := Scalar.muli arg4 c128_i32
  v14
def k0_off1 (k0_t1 : Fin k0_t1_loop.trips) : Fin 2 → Nat :=
  let c0_7 : Index := 0#32
  let c0_i32_1 : BitVec 32 := 0#32
  let c1_i32 : BitVec 32 := 1#32
  let arg4 : BitVec 32 := Scf.iv c0_i32_1 c1_i32 k0_t1
  let c128_i32 : BitVec 32 := 128#32
  let v14 : BitVec 32 := Scalar.muli arg4 c128_i32
  let v15 : BitVec 32 := v14
  let v16 : Index := Scalar.indexCast v15
  ![0, v16.toNat]
def k0_cond2 (i : grid0.Coords) : BitVec 1 :=
  let arg0 : BitVec 32 := BitVec.ofNat 32 (i 0).val
  let c63_i32 : BitVec 32 := 63#32
  let v11 : BitVec 1 := Scalar.cmpi .eq arg0 c63_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x25600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Kernel.lean ====
abbrev S1x1 : Shape := ⟨2, ![1, 1]⟩
abbrev S2x4096x25600 : Shape := ⟨3, ![2, 4096, 25600]⟩
abbrev S256x256 : Shape := ⟨2, ![256, 256]⟩
abbrev S128 : Shape := ⟨1, ![128]⟩
abbrev S8192x25600 : Shape := ⟨2, ![8192, 25600]⟩
abbrev S1x128 : Shape := ⟨2, ![1, 128]⟩
abbrev S2x1x4096 : Shape := ⟨3, ![2, 1, 4096]⟩
abbrev S2x1600x4096 : Shape := ⟨3, ![2, 1600, 4096]⟩
abbrev S8192x12800 : Shape := ⟨2, ![8192, 12800]⟩
abbrev S256x25600 : Shape := ⟨2, ![256, 25600]⟩
abbrev S1x1x256 : Shape := ⟨3, ![1, 1, 256]⟩
abbrev S1x1600x256 : Shape := ⟨3, ![1, 1600, 256]⟩
abbrev S256x12800 : Shape := ⟨2, ![256, 12800]⟩
abbrev S2x256x256 : Shape := ⟨3, ![2, 256, 256]⟩
abbrev S1x256x256 : Shape := ⟨3, ![1, 256, 256]⟩
abbrev S16x128 : Shape := ⟨2, ![16, 128]⟩
abbrev S1x16x128 : Shape := ⟨3, ![1, 16, 128]⟩
abbrev S128x128 : Shape := ⟨2, ![128, 128]⟩
abbrev S16x8x128 : Shape := ⟨3, ![16, 8, 128]⟩
abbrev S64x128 : Shape := ⟨2, ![64, 128]⟩
abbrev S32x128 : Shape := ⟨2, ![32, 128]⟩
abbrev S32x128x1 : Shape := ⟨3, ![32, 128, 1]⟩
abbrev S16x256 : Shape := ⟨2, ![16, 256]⟩
abbrev S64x256 : Shape := ⟨2, ![64, 256]⟩
abbrev S1x64x256 : Shape := ⟨3, ![1, 64, 256]⟩
abbrev S1x1x128 : Shape := ⟨3, ![1, 1, 128]⟩

abbrev nBuf : Space → Nat
  | .hbm => 11
  | .vmem => 15
  | .smem => 1
  | _ => 0

abbrev bufTy : (tb : Table) → Fin (tcTables nBuf tb) → BufTy
  | .hbm, ⟨0, _⟩ => ⟨S1x1, .f32⟩
  | .hbm, ⟨1, _⟩ => ⟨S2x4096x25600, .bf16⟩
  | .hbm, ⟨2, _⟩ => ⟨S256x256, .bf16⟩
  | .hbm, ⟨3, _⟩ => ⟨S128, .i32⟩
  | .hbm, ⟨4, _⟩ => ⟨S8192x25600, .bf16⟩
  | .hbm, ⟨5, _⟩ => ⟨S1x128, .i32⟩
  | .hbm, ⟨6, _⟩ => ⟨S2x1x4096, .f32⟩
  | .hbm, ⟨7, _⟩ => ⟨S2x1600x4096, .f32⟩
  | .hbm, ⟨8, _⟩ => ⟨S2x1600x4096, .f32⟩
  | .hbm, ⟨9, _⟩ => ⟨S8192x12800, .i8⟩
  | .hbm, ⟨10, _⟩ => ⟨S2x1600x4096, .fp8e4m3⟩
  | .local _ .vmem, ⟨0, _⟩ => ⟨S256x256, .bf16⟩
  | .local _ .vmem, ⟨1, _⟩ => ⟨S1x128, .i32⟩
  | .local _ .vmem, ⟨2, _⟩ => ⟨S256x25600, .bf16⟩
  | .local _ .vmem, ⟨3, _⟩ => ⟨S256x25600, .bf16⟩
  | .local _ .vmem, ⟨4, _⟩ => ⟨S1x1x256, .f32⟩
  | .local _ .vmem, ⟨5, _⟩ => ⟨S1x1x256, .f32⟩
  | .local _ .vmem, ⟨6, _⟩ => ⟨S1x1600x256, .f32⟩
  | .local _ .vmem, ⟨7, _⟩ => ⟨S1x1600x256, .f32⟩
  | .local _ .vmem, ⟨8, _⟩ => ⟨S1x1600x256, .f32⟩
  | .local _ .vmem, ⟨9, _⟩ => ⟨S1x1600x256, .f32⟩
  | .local _ .vmem, ⟨10, _⟩ => ⟨S256x12800, .i8⟩
  | .local _ .vmem, ⟨11, _⟩ => ⟨S256x12800, .i8⟩
  | .local _ .vmem, ⟨12, _⟩ => ⟨S1x1600x256, .fp8e4m3⟩
  | .local _ .vmem, ⟨13, _⟩ => ⟨S1x1600x256, .fp8e4m3⟩
  | .local _ .vmem, ⟨14, _⟩ => ⟨S2x256x256, .f32⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
@[reducible] def k0_t1_loop : Scf.Loop 32 :=
  let c0_i32_8 : BitVec 32 := 0#32
  let c25_i32 : BitVec 32 := 25#32
  let v11 : BitVec 32 := Scalar.addi c0_i32_8 c25_i32
  let c1_i32 : BitVec 32 := 1#32
  ⟨c0_i32_8, v11, c1_i32⟩
def k0_mult2 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let c0_i32_31 : BitVec 32 := 0#32
  let v56 : BitVec 32 := Scalar.addi v55 c0_i32_31
  let c1_i32_32 : BitVec 32 := 1#32
  let v57 : BitVec 32 := Scalar.addi v56 c1_i32_32
  let c99_i32 : BitVec 32 := 99#32
  let v58 : BitVec 32 := Scalar.minsi v57 c99_i32
  let c256_i32 : BitVec 32 := 256#32
  let v59 : BitVec 32 := Scalar.muli v58 c256_i32
  v59
def k0_off1 (k0_t1 : Fin k0_t1_loop.trips) (c0_i32_31 : BitVec 32) : Fin 2 → Nat :=
  let c0_33 : Index := 0#32
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let v56 : BitVec 32 := Scalar.addi v55 c0_i32_31
  let c1_i32_32 : BitVec 32 := 1#32
  let v57 : BitVec 32 := Scalar.addi v56 c1_i32_32
  let c99_i32 : BitVec 32 := 99#32
  let v58 : BitVec 32 := Scalar.minsi v57 c99_i32
  let c256_i32 : BitVec 32 := 256#32
  let v59 : BitVec 32 := Scalar.muli v58 c256_i32
  let v60 : BitVec 32 := v59
  let v61 : Index := Scalar.indexCast v60
  ![0, v61.toNat]
def k0_mult3 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let c0_i32_31 : BitVec 32 := 0#32
  let v56 : BitVec 32 := Scalar.addi v55 c0_i32_31
  let c16_i32 : BitVec 32 := 16#32
  let v69 : BitVec 32 := Scalar.muli v56 c16_i32
  v69
def k0_off2 (k0_t1 : Fin k0_t1_loop.trips) (c0_i32_31 : BitVec 32) : Fin 3 → Nat :=
  let c0_139 : Index := 0#32
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let v56 : BitVec 32 := Scalar.addi v55 c0_i32_31
  let c16_i32 : BitVec 32 := 16#32
  let v69 : BitVec 32 := Scalar.muli v56 c16_i32
  let v70 : BitVec 32 := v69
  let v645 : Index := Scalar.indexCast v70
  let c0_140 : Index := 0#32
  ![0, v645.toNat, 0]
def k0_mult4 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let c0_i32_31 : BitVec 32 := 0#32
  let v56 : BitVec 32 := Scalar.addi v55 c0_i32_31
  let c128_i32_146 : BitVec 32 := 128#32
  let v668 : BitVec 32 := Scalar.muli v56 c128_i32_146
  v668
def k0_off3 (k0_t1 : Fin k0_t1_loop.trips) (c0_i32_31 : BitVec 32) : Fin 2 → Nat :=
  let c0_147 : Index := 0#32
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let v56 : BitVec 32 := Scalar.addi v55 c0_i32_31
  let c128_i32_146 : BitVec 32 := 128#32
  let v668 : BitVec 32 := Scalar.muli v56 c128_i32_146
  let v669 : BitVec 32 := v668
  let v670 : Index := Scalar.indexCast v669
  ![0, v670.toNat]
def k0_off4 (k0_t1 : Fin k0_t1_loop.trips) (c0_i32_31 : BitVec 32) : Fin 3 → Nat :=
  let c0_272 : Index := 0#32
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let v56 : BitVec 32 := Scalar.addi v55 c0_i32_31
  let c16_i32 : BitVec 32 := 16#32
  let v69 : BitVec 32 := Scalar.muli v56 c16_i32
  let v70 : BitVec 32 := v69
  let v1248 : Index := Scalar.indexCast v70
  let c128_273 : Index := 128#32
  ![0, v1248.toNat, 128]
def k0_mult5 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let c0_i32_31 : BitVec 32 := 0#32
  let v56 : BitVec 32 := Scalar.addi v55 c0_i32_31
  let c128_i32_280 : BitVec 32 := 128#32
  let v1271 : BitVec 32 := Scalar.muli v56 c128_i32_280
  v1271
def k0_off5 (k0_t1 : Fin k0_t1_loop.trips) (c0_i32_31 : BitVec 32) : Fin 2 → Nat :=
  let c128_281 : Index := 128#32
  let c0_i32_8 : BitVec 32 := 0#32
  let c1_i32 : BitVec 32 := 1#32
  let arg12 : BitVec 32 := Scf.iv c0_i32_8 c1_i32 k0_t1
  let c4_i32 : BitVec 32 := 4#32
  let v55 : BitVec 32 := Scalar.muli arg12 c4_i32
  let v56 : BitVec 32 := Scalar.addi v55 c0_i32_31
  let c128_i32_280 : BitVec 32 := 128#32
  let v1271 : BitVec 32 := Scalar.muli v56 c128_i32_280
  let v1272 : BitVec 32 := v1271
  let v1273 : Index := Scalar.indexCast v1272
  ![128, v1273.toNat]
def k0_mult6 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_282 : BitVec 32 := 4#32
  let v1278 : BitVec 32 := Scalar.muli arg12 c4_i32_282
  let c1_i32_283 : BitVec 32 := 1#32
  let v1279 : BitVec 32 := Scalar.addi v1278 c1_i32_283
  let c1_i32_284 : BitVec 32 := 1#32
  let v1280 : BitVec 32 := Scalar.addi v1279 c1_i32_284
  let c99_i32_285 : BitVec 32 := 99#32
  let v1281 : BitVec 32 := Scalar.minsi v1280 c99_i32_285
  let c256_i32_286 : BitVec 32 := 256#32
  let v1282 : BitVec 32 := Scalar.muli v1281 c256_i32_286
  v1282
def k0_mult7 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_282 : BitVec 32 := 4#32
  let v1278 : BitVec 32 := Scalar.muli arg12 c4_i32_282
  let c1_i32_283 : BitVec 32 := 1#32
  let v1279 : BitVec 32 := Scalar.addi v1278 c1_i32_283
  let c16_i32_294 : BitVec 32 := 16#32
  let v1292 : BitVec 32 := Scalar.muli v1279 c16_i32_294
  v1292
def k0_mult8 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_282 : BitVec 32 := 4#32
  let v1278 : BitVec 32 := Scalar.muli arg12 c4_i32_282
  let c1_i32_283 : BitVec 32 := 1#32
  let v1279 : BitVec 32 := Scalar.addi v1278 c1_i32_283
  let c128_i32_427 : BitVec 32 := 128#32
  let v1891 : BitVec 32 := Scalar.muli v1279 c128_i32_427
  v1891
def k0_mult9 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_282 : BitVec 32 := 4#32
  let v1278 : BitVec 32 := Scalar.muli arg12 c4_i32_282
  let c1_i32_283 : BitVec 32 := 1#32
  let v1279 : BitVec 32 := Scalar.addi v1278 c1_i32_283
  let c128_i32_561 : BitVec 32 := 128#32
  let v2494 : BitVec 32 := Scalar.muli v1279 c128_i32_561
  v2494
def k0_mult10 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_563 : BitVec 32 := 4#32
  let v2501 : BitVec 32 := Scalar.muli arg12 c4_i32_563
  let c2_i32_564 : BitVec 32 := 2#32
  let v2502 : BitVec 32 := Scalar.addi v2501 c2_i32_564
  let c1_i32_565 : BitVec 32 := 1#32
  let v2503 : BitVec 32 := Scalar.addi v2502 c1_i32_565
  let c99_i32_566 : BitVec 32 := 99#32
  let v2504 : BitVec 32 := Scalar.minsi v2503 c99_i32_566
  let c256_i32_567 : BitVec 32 := 256#32
  let v2505 : BitVec 32 := Scalar.muli v2504 c256_i32_567
  v2505
def k0_mult11 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_563 : BitVec 32 := 4#32
  let v2501 : BitVec 32 := Scalar.muli arg12 c4_i32_563
  let c2_i32_564 : BitVec 32 := 2#32
  let v2502 : BitVec 32 := Scalar.addi v2501 c2_i32_564
  let c16_i32_575 : BitVec 32 := 16#32
  let v2515 : BitVec 32 := Scalar.muli v2502 c16_i32_575
  v2515
def k0_mult12 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_563 : BitVec 32 := 4#32
  let v2501 : BitVec 32 := Scalar.muli arg12 c4_i32_563
  let c2_i32_564 : BitVec 32 := 2#32
  let v2502 : BitVec 32 := Scalar.addi v2501 c2_i32_564
  let c128_i32_708 : BitVec 32 := 128#32
  let v3114 : BitVec 32 := Scalar.muli v2502 c128_i32_708
  v3114
def k0_mult13 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_563 : BitVec 32 := 4#32
  let v2501 : BitVec 32 := Scalar.muli arg12 c4_i32_563
  let c2_i32_564 : BitVec 32 := 2#32
  let v2502 : BitVec 32 := Scalar.addi v2501 c2_i32_564
  let c128_i32_842 : BitVec 32 := 128#32
  let v3717 : BitVec 32 := Scalar.muli v2502 c128_i32_842
  v3717
def k0_mult14 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_844 : BitVec 32 := 4#32
  let v3724 : BitVec 32 := Scalar.muli arg12 c4_i32_844
  let c3_i32_845 : BitVec 32 := 3#32
  let v3725 : BitVec 32 := Scalar.addi v3724 c3_i32_845
  let c1_i32_846 : BitVec 32 := 1#32
  let v3726 : BitVec 32 := Scalar.addi v3725 c1_i32_846
  let c99_i32_847 : BitVec 32 := 99#32
  let v3727 : BitVec 32 := Scalar.minsi v3726 c99_i32_847
  let c256_i32_848 : BitVec 32 := 256#32
  let v3728 : BitVec 32 := Scalar.muli v3727 c256_i32_848
  v3728
def k0_mult15 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_844 : BitVec 32 := 4#32
  let v3724 : BitVec 32 := Scalar.muli arg12 c4_i32_844
  let c3_i32_845 : BitVec 32 := 3#32
  let v3725 : BitVec 32 := Scalar.addi v3724 c3_i32_845
  let c16_i32_856 : BitVec 32 := 16#32
  let v3738 : BitVec 32 := Scalar.muli v3725 c16_i32_856
  v3738
def k0_mult16 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_844 : BitVec 32 := 4#32
  let v3724 : BitVec 32 := Scalar.muli arg12 c4_i32_844
  let c3_i32_845 : BitVec 32 := 3#32
  let v3725 : BitVec 32 := Scalar.addi v3724 c3_i32_845
  let c128_i32_989 : BitVec 32 := 128#32
  let v4337 : BitVec 32 := Scalar.muli v3725 c128_i32_989
  v4337
def k0_mult17 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c4_i32_844 : BitVec 32 := 4#32
  let v3724 : BitVec 32 := Scalar.muli arg12 c4_i32_844
  let c3_i32_845 : BitVec 32 := 3#32
  let v3725 : BitVec 32 := Scalar.addi v3724 c3_i32_845
  let c128_i32_1123 : BitVec 32 := 128#32
  let v4940 : BitVec 32 := Scalar.muli v3725 c128_i32_1123
  v4940
def k0_mult18 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c64_i32 : BitVec 32 := 64#32
  let v4949 : BitVec 32 := Scalar.muli arg12 c64_i32
  v4949
def k0_off6 (k0_t1 : Fin k0_t1_loop.trips) : Fin 3 → Nat :=
  let c0_1125 : Index := 0#32
  let c0_i32_8 : BitVec 32 := 0#32
  let c1_i32 : BitVec 32 := 1#32
  let arg12 : BitVec 32 := Scf.iv c0_i32_8 c1_i32 k0_t1
  let c64_i32 : BitVec 32 := 64#32
  let v4949 : BitVec 32 := Scalar.muli arg12 c64_i32
  let v4950 : BitVec 32 := v4949
  let v4951 : Index := Scalar.indexCast v4950
  let c0_1126 : Index := 0#32
  ![0, v4951.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x25600 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1600x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1600x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x12800 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1600x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AmaxReferenceIdeal.lean ====
abbrev S2x4096x25600 : Shape := ⟨3, ![2, 4096, 25600]⟩
abbrev S_ : Shape := ⟨0, ![]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x25600, .bf16⟩
  | .hbm, ⟨1, _⟩ => ⟨S2x4096x25600, .f32⟩
  | .hbm, ⟨2, _⟩ => ⟨S2x4096x25600, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | _, _ => ⟨S2x4096x25600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== ReferenceIdeal.lean ====
abbrev S1x1 : Shape := ⟨2, ![1, 1]⟩
abbrev S2x4096x25600 : Shape := ⟨3, ![2, 4096, 25600]⟩
abbrev S2x1x4096 : Shape := ⟨3, ![2, 1, 4096]⟩
abbrev S2x1600x4096 : Shape := ⟨3, ![2, 1600, 4096]⟩
abbrev S8192x12800 : Shape := ⟨2, ![8192, 12800]⟩
abbrev S2x4096x1600x16 : Shape := ⟨4, ![2, 4096, 1600, 16]⟩
abbrev S2x4096x1600 : Shape := ⟨3, ![2, 4096, 1600]⟩
abbrev S2x4096x1600x1 : Shape := ⟨4, ![2, 4096, 1600, 1]⟩
abbrev S2x4096x1600x8x2 : Shape := ⟨5, ![2, 4096, 1600, 8, 2]⟩
abbrev S2x4096x1600x8x1 : Shape := ⟨5, ![2, 4096, 1600, 8, 1]⟩
abbrev S2x4096x1600x8 : Shape := ⟨4, ![2, 4096, 1600, 8]⟩
abbrev S2x4096x12800 : Shape := ⟨3, ![2, 4096, 12800]⟩
abbrev S2x4096 : Shape := ⟨2, ![2, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x1, .f32⟩
  | .hbm, ⟨1, _⟩ => ⟨S2x4096x25600, .bf16⟩
  | .hbm, ⟨2, _⟩ => ⟨S2x1x4096, .f32⟩
  | .hbm, ⟨3, _⟩ => ⟨S2x1600x4096, .f32⟩
  | .hbm, ⟨4, _⟩ => ⟨S2x1600x4096, .f32⟩
  | .hbm, ⟨5, _⟩ => ⟨S8192x12800, .i8⟩
  | .hbm, ⟨6, _⟩ => ⟨S2x1600x4096, .fp8e4m3⟩
  | .local _ .vmem, ⟨0, _⟩ => ⟨S1x1, .f32⟩
  | .local _ .vmem, ⟨1, _⟩ => ⟨S2x4096x25600, .bf16⟩
  | .local _ .vmem, ⟨2, _⟩ => ⟨S2x1x4096, .f32⟩
  | .local _ .vmem, ⟨3, _⟩ => ⟨S2x1600x4096, .f32⟩
  | .local _ .vmem, ⟨4, _⟩ => ⟨S2x1600x4096, .f32⟩
  | .local _ .vmem, ⟨5, _⟩ => ⟨S8192x12800, .i8⟩
  | .local _ .vmem, ⟨6, _⟩ => ⟨S2x1600x4096, .fp8e4m3⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x25600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1600x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1600x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x12800 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1600x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.AmaxBody.lean ====
/-
  THE AMAX CALL, ITS BODY READ. One grid point keeps, per row and lane, the maximum of the absolute values of the row's
  200 chunks of 128 columns (the inner loop), joins it to the scratch it carries from point to point, and at the last
  point reduces the scratch to the one scale. Here each piece the generated run names is read as a value: one trip of
  the inner loop, the loop, what the scratch holds after a point, what the last point stores.
-/
module

public import proofs.«01_k».proof.Proof.Gen.AmaxIdeal.Value
public import Idealize.ShloMosaic.Lib.Tactic

@[expose] public section

noncomputable section

open Idealize.ShloMosaic Idealize.ShloMosaic.TcCoe Idealize.SL.Sem
open Idealize.ShloMosaic.Pipeline (Dat)

namespace Cert.AmaxIdeal.Body

open Cert.AmaxIdeal Cert.AmaxIdeal.Gen

variable {F : FTy → Type} [FloatOps F]

theorem hz : (![0, 0] : Fin 2 → Nat) = fun _ => 0 := funext fun a => by fin_cases a <;> rfl

/-- The chunk of columns that trip `k` of the inner loop loads. -/
abbrev chunk (x : Vec F S128x25600 .bf16) (k : Fin k0_t1_loop.trips) : Vec F S128x128 .bf16 :=
  View.ld x (Rect.unit (s := S128x25600) (k0_off1 k) S128x128.size (k0_off1_inb k))

theorem tripR_eq (c : Dev nD) (i : grid0.Coords) (a1 : Memref sig .tc .vmem S128x25600 .bf16) (h1 : a1.IsWhole)
    (a2 : Memref sig .tc .vmem S1x1 .f32) (h2 : a2.IsWhole) (a3 : Memref sig .tc .vmem S128x128 .bf16) (h3 : a3.IsWhole)
    (x : Vec F S128x25600 .bf16) (k : Fin k0_t1_loop.trips) (acc : FVec F S128x128 .bf16) :
    tripR_k0_t1 (F := F) Variants.none c none i a1 h1 a2 h2 a3 h3 (h1.unread x) k acc = k0_pay3 acc (chunk x k) := by
  unfold tripR_k0_t1 trip_k0_t1
  dsimp only
  sl_unfold_words
  simp only [View.readAt_eq_ld, h1.read_unread]
  rfl

theorem trips_eq : k0_t1_loop.trips = 200 := by decide +kernel

/-- The carried value of the inner loop before trip `k`. -/
def rowMax (x : Vec F S128x25600 .bf16) : ℕ → FVec F S128x128 .bf16
  | 0 => k0_pay2
  | k + 1 => if h : k < k0_t1_loop.trips then k0_pay3 (rowMax x k) (chunk x ⟨k, h⟩) else rowMax x k

theorem st_eq (c : Dev nD) (i : grid0.Coords) (a1 : Memref sig .tc .vmem S128x25600 .bf16) (h1 : a1.IsWhole)
    (a2 : Memref sig .tc .vmem S1x1 .f32) (h2 : a2.IsWhole) (a3 : Memref sig .tc .vmem S128x128 .bf16) (h3 : a3.IsWhole)
    (x : Vec F S128x25600 .bf16) : ∀ k : ℕ, k ≤ k0_t1_loop.trips →
    st_k0_t1 (F := F) Variants.none c none i a1 h1 a2 h2 a3 h3 (h1.unread x) k0_pay2 k = rowMax x k
  | 0, _ => rfl
  | k + 1, hk => by
    have h : k < k0_t1_loop.trips := hk
    rw [show k + 1 = (⟨k, h⟩ : Fin k0_t1_loop.trips).val + 1 from rfl, st_k0_t1_succ, tripR_eq]
    dsimp only
    rw [st_eq c i a1 h1 a2 h2 a3 h3 x k (Nat.le_of_lt h), rowMax, dif_pos h]

/-- What a first point leaves in the scratch. -/
theorem sout_A (c : Dev nD) (i : grid0.Coords) (a1 : Memref sig .tc .vmem S128x25600 .bf16) (h1 : a1.IsWhole)
    (a2 : Memref sig .tc .vmem S1x1 .f32) (h2 : a2.IsWhole) (a3 : Memref sig .tc .vmem S128x128 .bf16) (h3 : a3.IsWhole)
    (hc0 : cond0_0 i) (hc1 : ¬cond0_1 i) (x : Vec F S128x25600 .bf16) :
    sout0_A_0 c i a1 h1 a2 h2 a3 h3 hc0 hc1 x = k0_pay4 (rowMax x k0_t1_loop.trips) k0_pay1 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S128x128) hz, View.readCov_unit_zero (S := S128x128) _ hz, st_eq _ _ _ _ _ _ _ _ _ _ le_rfl]

/-- What a middle point leaves in the scratch. -/
theorem sout_B (c : Dev nD) (i : grid0.Coords) (a1 : Memref sig .tc .vmem S128x25600 .bf16) (h1 : a1.IsWhole)
    (a2 : Memref sig .tc .vmem S1x1 .f32) (h2 : a2.IsWhole) (a3 : Memref sig .tc .vmem S128x128 .bf16) (h3 : a3.IsWhole)
    (hc0 : ¬cond0_0 i) (hc1 : ¬cond0_1 i) (x : Vec F S128x25600 .bf16) (s : Vec F S128x128 .bf16) :
    sout0_B_0 c i a1 h1 a2 h2 a3 h3 hc0 hc1 x s = k0_pay4 (rowMax x k0_t1_loop.trips) s := by
  unfold sout0_B_0
  rw [View.read_writes_eq_canon _ _ _ (scover0_B_0 c i a1 h1 a2 h2 a3 h3 hc0 hc1 x s)]
  unfold kernelRun0_B
  dsimp only
  sl_unfold_words
  rw [View.canon_unit_zero (S := S128x128) hz, st_eq _ _ _ _ _ _ _ _ _ _ le_rfl]
  simp only [View.readAt_eq_ld, h3.read_unread, View.ld_unit_zero (S := S128x128) hz]

/-- What the last point stores as the result. -/
theorem out_C (c : Dev nD) (i : grid0.Coords) (a1 : Memref sig .tc .vmem S128x25600 .bf16) (h1 : a1.IsWhole)
    (a2 : Memref sig .tc .vmem S1x1 .f32) (h2 : a2.IsWhole) (a3 : Memref sig .tc .vmem S128x128 .bf16) (h3 : a3.IsWhole)
    (hc0 : ¬cond0_0 i) (hc1 : cond0_1 i) (x : Vec F S128x25600 .bf16) (s : Vec F S128x128 .bf16) :
    out0_C_1 c i a1 h1 a2 h2 a3 h3 hc0 hc1 x s = k0_pay5 (k0_pay4 (rowMax x k0_t1_loop.trips) s) := by
  unfold out0_C_1
  rw [View.read_writes_eq_canon _ _ _ (cover0_C_1 c i a1 h1 a2 h2 a3 h3 hc0 hc1 x s)]
  unfold kernelRun0_C
  dsimp only
  sl_unfold_words
  rw [View.canon_unit_zero (S := S1x1) hz, View.readCov_unit_zero (S := S128x128) _ hz, st_eq _ _ _ _ _ _ _ _ _ _ le_rfl]
  simp only [View.readAt_eq_ld, h3.read_unread, View.ld_unit_zero (S := S128x128) hz]

variable (m : (ℓ : Loc nD τ sig) → Buf (Elt F) ℓ)

/-- The scratch after point `n`. -/
def scratch (c : Dev nD) : (n : ℕ) → n < cfg0.N → Vec F S128x128 .bf16
  | 0, h => k0_pay4 (rowMax (iblk m c 0 ⟨0, h⟩) k0_t1_loop.trips) k0_pay1
  | n + 1, h => k0_pay4 (rowMax (iblk m c 0 ⟨n + 1, h⟩) k0_t1_loop.trips) (scratch c n (Nat.lt_of_succ_lt h))

theorem outsAt_scratch (c : Dev nD) : ∀ (n : ℕ) (h : n < cfg0.N), n < 63 → (outsAt0 m c n h).2 = scratch m c n h
  | 0, h, _ => by
    rw [outsAt0_A m c ⟨0, h⟩ rfl (by dsimp only; omega)]
    dsimp only
    rw [sout_A]
    rfl
  | n + 1, h, h3 => by
    rw [outsAt0_B m c ⟨n + 1, h⟩ (by dsimp only; omega) (by dsimp only; omega)]
    dsimp only
    rw [sout_B]
    show k0_pay4 _ (outsAt0 m c n _).2 = k0_pay4 _ (scratch m c n _)
    rw [outsAt_scratch c n _ (by omega)]

/-- THE RESULT of the amax call: the scale of the scratch after the last point. -/
theorem G1_eq (c : Dev nD) :
    Value.G1 m c = k0_pay5 (scratch m c 63 (lt_of_lt_of_eq (by decide) N_0.symm)) := by
  have h : 63 < cfg0.N := lt_of_lt_of_eq (by decide) N_0.symm
  rw [Value.G1_last, ← Value.outsAt0_sweep m c 63 h, outsAt0_C m c ⟨63, h⟩ (by dsimp only; omega) (by dsimp only)]
  dsimp only
  rw [out_C]
  show k0_pay5 (k0_pay4 _ (outsAt0 m c 62 _).2) = k0_pay5 (k0_pay4 _ (scratch m c 62 _))
  rw [outsAt_scratch m c 62 _ (by omega)]

end Cert.AmaxIdeal.Body

end
-- ==== Proof.AmaxValue.lean ====
/-
  THE AMAX CALL'S RESULT is the reference's: both are the greatest absolute value of the argument, over 2688, or 1 where
  that is not positive. The two maxima are compared by what they are below.
-/
module

public import proofs.«01_k».proof.Proof.AmaxBody
public import proofs.«01_k».proof.Proof.Gen.AmaxReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.AmaxIdeal.Body

open Cert.AmaxIdeal Cert.AmaxIdeal.Gen

/-- The absolute value. -/
abbrev mag (e : EReal) : EReal := max e (-e)

theorem mag_nonneg (e : EReal) : 0 ≤ mag e := by
  rcases le_total 0 e with h | h
  · exact h.trans (le_max_left _ _)
  · exact (EReal.neg_nonneg.mpr h).trans (le_max_right _ _)

theorem off1_eq : ∀ k : Fin k0_t1_loop.trips, k0_off1 k = ![0, 128 * k.val] := by decide +kernel

theorem col_lt (k : Fin k0_t1_loop.trips) (l : Fin 128) : 128 * k.val + l.val < 25600 := by
  have h1 : k.val < 200 := lt_of_lt_of_eq k.isLt trips_eq
  have h2 := l.isLt
  omega

theorem chunk_apply (x : Vec Ideal S128x25600 .bf16) (k : Fin k0_t1_loop.trips) (r l : Fin 128) :
    chunk x k (ix2 r l) = x (ix2 r ⟨128 * k.val + l.val, col_lt k l⟩) := by
  show x _ = x _
  congr 1
  funext a
  apply Fin.ext
  have h := off1_eq k
  fin_cases a
  · show k0_off1 k 0 + 1 * r.val = r.val
    rw [h]; show 0 + 1 * r.val = _; omega
  · show k0_off1 k 1 + 1 * l.val = 128 * k.val + l.val
    rw [h]; show 128 * k.val + 1 * l.val = 128 * k.val + l.val; omega

theorem pay3_apply (acc : FVec Ideal S128x128 .bf16) (v : Vec Ideal S128x128 .bf16) (r l : Fin 128) :
    k0_pay3 acc v (ix2 r l) = max (acc (ix2 r l)) (mag (v (ix2 r l))) := by
  pointwise [k0_pay3]
  rfl

theorem pay4_apply (a b : FVec Ideal S128x128 .bf16) (r l : Fin 128) :
    k0_pay4 a b (ix2 r l) = max (b (ix2 r l)) (a (ix2 r l)) := by
  pointwise [k0_pay4]
  done

theorem pay1_apply (r l : Fin 128) : (k0_pay1 (F := Ideal)) (ix2 r l) = 0 := by
  pointwise [k0_pay1]
  done
theorem pay2_apply (r l : Fin 128) : (k0_pay2 (F := Ideal)) (ix2 r l) = 0 := by
  pointwise [k0_pay2]
  done

/-- The scale of a greatest absolute value. -/
def scaleOf (R : EReal) : EReal := if 0 < R then Ideal.div R (Ideal.ofBits FTy.f32 1160249344#32) else 1

theorem pay5_apply (v : Vec Ideal S128x128 .bf16) :
    k0_pay5 v (ix2 (0 : Fin 1) (0 : Fin 1)) = scaleOf (Finset.fold max (Ideal.ofBits FTy.f32 4286578688#32) (fun x : Fin 128 × Fin 128 => v (ix2 x.1 x.2)) Finset.univ) := by
  pointwise [k0_pay5]
  rfl

theorem ref_generic (R : FVec Ideal Cert.AmaxReferenceIdeal.S_ .f32) :
    shapeCast Cert.AmaxReferenceIdeal.S1x1 (select (cmpf .ogt R (constant Cert.AmaxReferenceIdeal.S_ .f32 0x00000000#32)) (Host.divf R (constant Cert.AmaxReferenceIdeal.S_ .f32 0x45280000#32)) (constant Cert.AmaxReferenceIdeal.S_ .f32 0x3F800000#32)) Cert.AmaxReferenceIdeal.Gen.facts.shapeCasts_S_S1x1 (ix2 (0 : Fin 1) (0 : Fin 1))
      = scaleOf (R ix0) := by
  pointwise
  rfl

variable (m : (ℓ : Loc nD τ sig) → Buf (Elt Ideal) ℓ)
/-- The reference's maximum is below what every absolute value is below. -/
theorem ref_le (x : (⟨Cert.AmaxReferenceIdeal.S2x4096x25600, .bf16⟩ : BufTy).Contents (Elt Ideal)) (b : EReal) :
    Cert.AmaxReferenceIdeal.Read.val_main_v2 (F := Ideal) x ix0 ≤ b ↔ Ideal.ofBits FTy.f32 4286578688#32 ≤ b ∧ ∀ i, mag (x i) ≤ b := by
  unfold Cert.AmaxReferenceIdeal.Read.val_main_v2
  rw [Host.reduce_eq_fold]
  refine (Finset.fold_max_le b).trans (and_congr_right fun _ => ⟨fun h i => ?_, fun h i _ => ?_⟩)
  · exact h i (Finset.mem_filter.mpr ⟨Finset.mem_univ i, funext fun a => a.elim0⟩)
  · exact h i

theorem V_v0 (c : Dev nD) : V m c main_v0 = shapeCast S8192x25600 (m ((c : Thread nD τ).loc main_arg0)) shapeCasts_S2x4096x25600_S8192x25600 := by
  show StableHlo.after hostOps0 _ (Proc.devRef .tc main_v0) = _
  after_results
  rfl

theorem rowMax_le (x : Vec Ideal S128x25600 .bf16) (r l : Fin 128) (b : EReal) : ∀ k : ℕ, k ≤ 200 →
    (rowMax x k (ix2 r l) ≤ b ↔ 0 ≤ b ∧ ∀ j : Fin 200, j.val < k → mag (x (ix2 r ⟨128 * j.val + l.val, by omega⟩)) ≤ b)
  | 0, _ => by
    rw [rowMax, pay2_apply]
    exact ⟨fun h => ⟨h, fun j hj => absurd hj (by omega)⟩, fun h => h.1⟩
  | k + 1, hk => by
    have hlt : k < k0_t1_loop.trips := by rw [trips_eq]; omega
    rw [rowMax, dif_pos hlt, pay3_apply, max_le_iff, rowMax_le x r l b k (by omega), chunk_apply]
    constructor
    · rintro ⟨⟨h0, h⟩, hn⟩
      refine ⟨h0, fun j hj => ?_⟩
      by_cases hjk : j.val < k
      · exact h j hjk
      · obtain rfl : j = ⟨k, lt_of_lt_of_le (Nat.lt_succ_self k) hk⟩ := Fin.ext (by show j.val = k; omega)
        exact hn
    · rintro ⟨h0, h⟩
      exact ⟨⟨h0, fun j hj => h j (by omega)⟩, h ⟨k, by omega⟩ (Nat.lt_succ_self k)⟩

theorem scratch_le (c : Dev nD) (r l : Fin 128) (b : EReal) : ∀ (n : ℕ) (hn : n < cfg0.N),
    (scratch m c n hn (ix2 r l) ≤ b ↔ 0 ≤ b ∧ ∀ (t : Fin cfg0.N), t.val ≤ n → ∀ j : Fin 200, mag ((iblk m c 0 t : Vec Ideal S128x25600 .bf16) (ix2 r ⟨128 * j.val + l.val, by omega⟩)) ≤ b)
  | 0, hn => by
    rw [scratch, pay4_apply, pay1_apply, max_le_iff, trips_eq, rowMax_le _ r l b 200 le_rfl]
    constructor
    · rintro ⟨h0, _, h⟩
      refine ⟨h0, fun t ht j => ?_⟩
      obtain rfl : t = ⟨0, hn⟩ := Fin.ext (by show t.val = 0; omega)
      exact h j j.isLt
    · rintro ⟨h0, h⟩
      exact ⟨h0, h0, fun j _ => h ⟨0, hn⟩ le_rfl j⟩
  | n + 1, hn => by
    rw [scratch, pay4_apply, max_le_iff, trips_eq, rowMax_le _ r l b 200 le_rfl, scratch_le c r l b n (by omega)]
    constructor
    · rintro ⟨⟨h0, h⟩, _, h'⟩
      refine ⟨h0, fun t ht j => ?_⟩
      by_cases htn : t.val ≤ n
      · exact h t htn j
      · obtain rfl : t = ⟨n + 1, hn⟩ := Fin.ext (by show t.val = n + 1; omega)
        exact h' j j.isLt
    · rintro ⟨h0, h⟩
      exact ⟨⟨h0, fun t ht j => h t (by omega) j⟩, h0, fun j _ => h ⟨n + 1, hn⟩ le_rfl j⟩

/-- Point `t`'s block is rows `128 t` to `128 t + 127` of the reshaped argument. -/
theorem iblk_apply (c : Dev nD) (t : Fin cfg0.N) (r : Fin 128) (l : Fin 25600) :
    (iblk m c 0 t : Vec Ideal S128x25600 .bf16) (ix2 r l)
      = V m c main_v0 (ix2 (⟨128 * t.val + r.val, by have := lt_of_lt_of_eq t.isLt N_0; have := r.isLt; omega⟩ : Fin 8192) l) := by
  have idx : ∀ t : Fin cfg0.N, win0_0.index t (0 : Fin 2) = t.val ∧ win0_0.index t (1 : Fin 2) = 0 := by decide +kernel
  blk_ext [iblk, idx t]

/-- Row `R`, column `l` of the reshaped argument is the argument at token `R` of the two batches' `4096` each. -/
theorem V_apply (c : Dev nD) (R : Fin 8192) (l : Fin 25600) :
    (V m c main_v0 : Vec Ideal S8192x25600 .bf16) (ix2 R l) = m ((c : Thread nD τ).loc main_arg0) (ix3 (⟨R.val / 4096, by omega⟩ : Fin 2) (⟨R.val % 4096, by omega⟩ : Fin 4096) l) := by
  rw [V_v0]
  refine shapeCast_apply _ _ _ _ ?_
  have h3 := Shape.rowMajor_val_three (d := ![2, 4096, 25600]) (ix3 (⟨R.val / 4096, by omega⟩ : Fin 2) (⟨R.val % 4096, by omega⟩ : Fin 4096) l)
  have h2 := Shape.rowMajor_val_two (d := ![8192, 25600]) (ix2 R l)
  refine h3.trans (Eq.trans ?_ h2.symm)
  show (R.val / 4096 * 4096 + R.val % 4096) * 25600 + l.val = R.val * 25600 + l.val
  omega

/-- Both maxima are below the same bounds. -/
theorem max_le_iff_all (c : Dev nD) (b : EReal) :
    (∀ x : Fin 128 × Fin 128, scratch m c 63 (lt_of_lt_of_eq (by decide) N_0.symm) (ix2 x.1 x.2) ≤ b) ↔ ∀ i : S2x4096x25600.Idx, mag ((m ((c : Thread nD τ).loc main_arg0) : Vec Ideal S2x4096x25600 .bf16) i) ≤ b := by
  constructor
  · intro h i
    have h0 : (i (0 : Fin 3)).val < 2 := (i (0 : Fin 3)).isLt
    have h1 : (i (1 : Fin 3)).val < 4096 := (i (1 : Fin 3)).isLt
    have h2 : (i (2 : Fin 3)).val < 25600 := (i (2 : Fin 3)).isLt
    have ht : (4096 * (i (0 : Fin 3)).val + (i (1 : Fin 3)).val) / 128 < cfg0.N := lt_of_lt_of_eq (b := 64) (by omega) N_0.symm
    have hs := ((scratch_le m c (⟨(4096 * (i (0 : Fin 3)).val + (i (1 : Fin 3)).val) % 128, by omega⟩ : Fin 128) (⟨(i (2 : Fin 3)).val % 128, by omega⟩ : Fin 128) b 63 _).mp (h (_, _))).2
      ⟨(4096 * (i (0 : Fin 3)).val + (i (1 : Fin 3)).val) / 128, ht⟩ (by show _ / 128 ≤ 63; omega) ⟨(i (2 : Fin 3)).val / 128, by omega⟩
    rw [iblk_apply, V_apply] at hs
    refine le_of_eq_of_le (congrArg mag (congrArg _ ?_)) hs
    funext a
    apply Fin.ext
    fin_cases a
    · show (i (0 : Fin 3)).val = (128 * ((4096 * (i (0 : Fin 3)).val + (i (1 : Fin 3)).val) / 128) + (4096 * (i (0 : Fin 3)).val + (i (1 : Fin 3)).val) % 128) / 4096
      omega
    · show (i (1 : Fin 3)).val = (128 * ((4096 * (i (0 : Fin 3)).val + (i (1 : Fin 3)).val) / 128) + (4096 * (i (0 : Fin 3)).val + (i (1 : Fin 3)).val) % 128) % 4096
      omega
    · show (i (2 : Fin 3)).val = 128 * ((i (2 : Fin 3)).val / 128) + (i (2 : Fin 3)).val % 128
      omega
  · rintro h ⟨r, l⟩
    refine (scratch_le m c r l b 63 _).mpr ⟨(mag_nonneg _).trans (h (ix3 (0 : Fin 2) (0 : Fin 4096) (0 : Fin 25600))), fun t _ j => ?_⟩
    rw [iblk_apply, V_apply]
    exact h _

/-- THE AMAX CALL'S RESULT is the reference's, of the same argument. -/
theorem result_eq (c : Dev nD) : Value.G1 m c = Cert.AmaxReferenceIdeal.Read.val_main_v6 (F := Ideal) (m ((c : Thread nD τ).loc main_arg0)) := by
  rw [G1_eq]
  funext j
  obtain rfl : j = ix2 (0 : Fin 1) (0 : Fin 1) := by
    funext a; apply Fin.ext
    fin_cases a
    · exact Nat.lt_one_iff.mp (j (0 : Fin 2)).isLt
    · exact Nat.lt_one_iff.mp (j (1 : Fin 2)).isLt
  refine (pay5_apply _).trans (Eq.trans ?_ (ref_generic (Cert.AmaxReferenceIdeal.Read.val_main_v2 (F := Ideal) (m ((c : Thread nD τ).loc main_arg0)))).symm)
  refine congrArg scaleOf ?_
  refine eq_of_forall_ge_iff fun b => ?_
  rw [ref_le, Finset.fold_max_le]
  refine and_congr_right fun _ => Iff.trans ?_ (max_le_iff_all m c b)
  exact ⟨fun h x => h x (Finset.mem_univ x), fun h x _ => h x⟩

end Cert.AmaxIdeal.Body

end
-- ==== Proof.QuantUnit.lean ====
/-
  ONE UNIT OF THE QUANT KERNEL'S LOOP. A trip of the loop handles four tiles, each in two halves of 128 lanes; a unit is
  one half of one tile. Here is what a unit computes from the sixteen 16 x 128 slices of the transposed tile: the block
  scale, the codes, the sums of squares of the signal and of the error, the packed bytes. The loop's region is then
  written as eight calls of one unit program.
-/
module

public import proofs.«01_k».proof.Proof.Gen.KernelIdeal.Skeleton

@[expose] public section

noncomputable section

open Idealize.ShloMosaic Idealize.ShloMosaic.TcCoe Idealize.SL.Sem

namespace Cert.KernelIdeal.Quant

open Cert.KernelIdeal Cert.KernelIdeal.Gen

variable {F : FTy → Type} [FloatOps F]

/-- One slice of the transposed tile, and the same in bf16. -/
def row (v : Vec F S1x16x128 .f32) : FVec F S16x128 .f32 := shapeCast S16x128 v shapeCasts_S1x16x128_S16x128
def rowB (v : Vec F S1x16x128 .f32) : FVec F S16x128 .bf16 := truncf .bf16 (row v) bitsLt_bf16_f32

def cst16 (b : BitVec 32) : FVec F S16x128 .f32 := broadcast S16x128 (Scalar.ofBits .f32 b : F .f32)
def cst128 (b : BitVec 32) : FVec F S128x128 .f32 := broadcast S128x128 (Scalar.ofBits .f32 b : F .f32)
def int16 (b : BitVec 32) : IVec S16x128 32 := broadcast S16x128 b
def int128 (b : BitVec 32) : IVec S128x128 32 := broadcast S128x128 b
def int32 (b : BitVec 32) : IVec S32x128 32 := broadcast S32x128 b

/-- The greatest absolute value of a block's sixteen entries. -/
def mx (a : FVec F S16x128 .bf16) (v : Vec F S1x16x128 .f32) : FVec F S16x128 .bf16 := maximumf a (absf (rowB v))
def blockMax (x0 x1 x2 x3 x4 x5 x6 x7 x8 x9 x10 x11 x12 x13 x14 x15 : Vec F S1x16x128 .f32) : FVec F S16x128 .bf16 :=
  mx (mx (mx (mx (mx (mx (mx (mx (mx (mx (mx (mx (mx (mx (mx (absf (rowB x0)) x1) x2) x3) x4) x5) x6) x7) x8) x9) x10) x11) x12) x13) x14) x15

/-- The block's scale, from its greatest absolute value. -/
def blockScale (v0 : Elt F .f32) (m : FVec F S16x128 .bf16) : FVec F S16x128 .f32 :=
  extf .f32 (truncf .fp8e4m3 (minimumf (cst16 0x43E00000#32) (maximumf (cst16 0x00000000#32)
    (divf (extf .f32 m bitsLt_bf16_f32) (broadcast S16x128 (Scalar.mulf (Scalar.ofBits .f32 0x40C00000#32 : F .f32) v0)))))
    bitsLt_fp8e4m3_f32) bitsLt_fp8e4m3_f32

/-- What a code of the block stands for is multiplied by this. -/
def denom (v0 : Elt F .f32) (s : FVec F S16x128 .f32) : FVec F S16x128 .f32 := mulf s (broadcast S16x128 v0)

def recip (d : FVec F S16x128 .f32) : FVec F S16x128 .f32 :=
  select (cmpf .ogt d (cst16 0x00000000#32))
    (divf (cst16 0x3F800000#32) (select (cmpf .ogt d (cst16 0x00000000#32)) d (cst16 0x3F800000#32)))
    (cst16 0x00000000#32)

/-- Eight slices under one another. -/
def stack (y0 y1 y2 y3 y4 y5 y6 y7 : FVec F S16x128 .f32) : FVec F S128x128 .f32 :=
  concatenate S128x128 0 [⟨S16x128, y0⟩, ⟨S16x128, y1⟩, ⟨S16x128, y2⟩, ⟨S16x128, y3⟩, ⟨S16x128, y4⟩, ⟨S16x128, y5⟩, ⟨S16x128, y6⟩, ⟨S16x128, y7⟩] concatenates_S16x128_S16x128_S16x128_S16x128_S16x128_S16x128_S16x128_S16x128_S128x128_d0

def scaled (y0 y1 y2 y3 y4 y5 y6 y7 : Vec F S1x16x128 .f32) (r : FVec F S16x128 .f32) : FVec F S128x128 .f32 :=
  mulf (stack (row y0) (row y1) (row y2) (row y3) (row y4) (row y5) (row y6) (row y7)) (stack r r r r r r r r)

/-- The E2M1 magnitude nearest to `a`, ties to even, and its index. -/
def magnitude (a : FVec F S128x128 .f32) : FVec F S128x128 .f32 :=
  select (cmpf .ogt a (cst128 0x40A00000#32)) (cst128 0x40C00000#32)
    (select (cmpf .oge a (cst128 0x40600000#32)) (cst128 0x40800000#32)
    (select (cmpf .ogt a (cst128 0x40200000#32)) (cst128 0x40400000#32)
    (select (cmpf .oge a (cst128 0x3FE00000#32)) (cst128 0x40000000#32)
    (select (cmpf .ogt a (cst128 0x3FA00000#32)) (cst128 0x3FC00000#32)
    (select (cmpf .oge a (cst128 0x3F400000#32)) (cst128 0x3F800000#32)
    (select (cmpf .ogt a (cst128 0x3E800000#32)) (cst128 0x3F000000#32) (cst128 0x00000000#32)))))))
def magIndex (a : FVec F S128x128 .f32) : IVec S128x128 32 :=
  select (cmpf .ogt a (cst128 0x40A00000#32)) (int128 7#32)
    (select (cmpf .oge a (cst128 0x40600000#32)) (int128 6#32)
    (select (cmpf .ogt a (cst128 0x40200000#32)) (int128 5#32)
    (select (cmpf .oge a (cst128 0x3FE00000#32)) (int128 4#32)
    (select (cmpf .ogt a (cst128 0x3FA00000#32)) (int128 3#32)
    (select (cmpf .oge a (cst128 0x3F400000#32)) (int128 2#32)
    (select (cmpf .ogt a (cst128 0x3E800000#32)) (int128 1#32) (int128 0#32)))))))

/-- The E2M1 value of `y`, and its nibble. -/
def e2m1 (y : FVec F S128x128 .f32) : FVec F S128x128 .f32 :=
  select (cmpf .olt y (cst128 0x00000000#32)) (subf (cst128 0x00000000#32) (magnitude (absf y))) (magnitude (absf y))
def nibble (y : FVec F S128x128 .f32) : IVec S128x128 32 :=
  select (cmpf .olt y (cst128 0x00000000#32)) (ori (magIndex (absf y)) (int128 8#32)) (magIndex (absf y))

/-- The leading six bits of the denominator, rounded down. -/
def split6 (d : FVec F S16x128 .bf16) : FVec F S16x128 .bf16 :=
  subf (mulf d (broadcast S16x128 (Scalar.ofBits .bf16 0x40A0#16 : F .bf16)))
    (subf (mulf d (broadcast S16x128 (Scalar.ofBits .bf16 0x40A0#16 : F .bf16))) d)
def near6 (d : FVec F S16x128 .f32) : FVec F S16x128 .f32 :=
  extf .f32 (split6 (truncf .bf16 d bitsLt_bf16_f32)) bitsLt_bf16_f32
def high6 (d : FVec F S16x128 .f32) : FVec F S16x128 .f32 :=
  select (cmpf .ogt (near6 d) d)
    (extf .f32 (split6 (truncf .bf16 (mulf (near6 d) (cst16 0x3F7B0000#32)) bitsLt_bf16_f32)) bitsLt_bf16_f32) (near6 d)

def code0 (q : FVec F S128x128 .f32) : FVec F S16x128 .bf16 :=
  extractStridedSlice S16x128 ![0, 0] (truncf .bf16 q bitsLt_bf16_f32) slices_S128x128_o0_0_S16x128
def code1 (q : FVec F S128x128 .f32) : FVec F S16x128 .bf16 :=
  extractStridedSlice S16x128 ![16, 0] (truncf .bf16 q bitsLt_bf16_f32) slices_S128x128_o16_0_S16x128
def code2 (q : FVec F S128x128 .f32) : FVec F S16x128 .bf16 :=
  extractStridedSlice S16x128 ![32, 0] (truncf .bf16 q bitsLt_bf16_f32) slices_S128x128_o32_0_S16x128
def code3 (q : FVec F S128x128 .f32) : FVec F S16x128 .bf16 :=
  extractStridedSlice S16x128 ![48, 0] (truncf .bf16 q bitsLt_bf16_f32) slices_S128x128_o48_0_S16x128
def code4 (q : FVec F S128x128 .f32) : FVec F S16x128 .bf16 :=
  extractStridedSlice S16x128 ![64, 0] (truncf .bf16 q bitsLt_bf16_f32) slices_S128x128_o64_0_S16x128
def code5 (q : FVec F S128x128 .f32) : FVec F S16x128 .bf16 :=
  extractStridedSlice S16x128 ![80, 0] (truncf .bf16 q bitsLt_bf16_f32) slices_S128x128_o80_0_S16x128
def code6 (q : FVec F S128x128 .f32) : FVec F S16x128 .bf16 :=
  extractStridedSlice S16x128 ![96, 0] (truncf .bf16 q bitsLt_bf16_f32) slices_S128x128_o96_0_S16x128
def code7 (q : FVec F S128x128 .f32) : FVec F S16x128 .bf16 :=
  extractStridedSlice S16x128 ![112, 0] (truncf .bf16 q bitsLt_bf16_f32) slices_S128x128_o112_0_S16x128

/-- The residual of a slice against its codes times the rounded denominator. -/
def resid (v : Vec F S1x16x128 .f32) (c : FVec F S16x128 .bf16) (d : FVec F S16x128 .f32) : FVec F S16x128 .bf16 :=
  subf (rowB v) (mulf c (truncf .bf16 (high6 d) bitsLt_bf16_f32))

/-- A product of two slices in f32, and a running sum of such. -/
def prod (a b : FVec F S16x128 .bf16) : FVec F S16x128 .f32 :=
  mulf (extf .f32 a bitsLt_bf16_f32) (extf .f32 b bitsLt_bf16_f32)
def plus (s : FVec F S16x128 .f32) (a b : FVec F S16x128 .bf16) : FVec F S16x128 .f32 := addf s (prod a b)

def dot16 (a0 a1 a2 a3 a4 a5 a6 a7 a8 a9 a10 a11 a12 a13 a14 a15 b0 b1 b2 b3 b4 b5 b6 b7 b8 b9 b10 b11 b12 b13 b14 b15 : FVec F S16x128 .bf16) :
    FVec F S16x128 .f32 :=
  plus (plus (plus (plus (plus (plus (plus (plus (plus (plus (plus (plus (plus (plus (plus (prod a0 b0) a1 b1) a2 b2) a3 b3) a4 b4) a5 b5) a6 b6) a7 b7) a8 b8) a9 b9) a10 b10) a11 b11) a12 b12) a13 b13) a14 b14) a15 b15

section
variable (v0 : Elt F .f32) (x0 x1 x2 x3 x4 x5 x6 x7 x8 x9 x10 x11 x12 x13 x14 x15 : Vec F S1x16x128 .f32)

def uScale : FVec F S16x128 .f32 := blockScale v0 (blockMax x0 x1 x2 x3 x4 x5 x6 x7 x8 x9 x10 x11 x12 x13 x14 x15)
def uDen : FVec F S16x128 .f32 := denom v0 (uScale v0 x0 x1 x2 x3 x4 x5 x6 x7 x8 x9 x10 x11 x12 x13 x14 x15)
def uEven : FVec F S128x128 .f32 := scaled x0 x2 x4 x6 x8 x10 x12 x14 (recip (uDen v0 x0 x1 x2 x3 x4 x5 x6 x7 x8 x9 x10 x11 x12 x13 x14 x15))
def uOdd : FVec F S128x128 .f32 := scaled x1 x3 x5 x7 x9 x11 x13 x15 (recip (uDen v0 x0 x1 x2 x3 x4 x5 x6 x7 x8 x9 x10 x11 x12 x13 x14 x15))
def uSignal : FVec F S16x128 .f32 := dot16 (rowB x0) (rowB x1) (rowB x2) (rowB x3) (rowB x4) (rowB x5) (rowB x6) (rowB x7) (rowB x8) (rowB x9) (rowB x10) (rowB x11) (rowB x12) (rowB x13) (rowB x14) (rowB x15)
    (rowB x0) (rowB x1) (rowB x2) (rowB x3) (rowB x4) (rowB x5) (rowB x6) (rowB x7) (rowB x8) (rowB x9) (rowB x10) (rowB x11) (rowB x12) (rowB x13) (rowB x14) (rowB x15)

def uCode0 : FVec F S16x128 .bf16 := code0 (e2m1 (uEven v0 x0 x1 x2 x3 x4 x5 x6 x7 x8 x9 x10 x11 x12 x13 x14 x15))
def uRes0 : FVec F S16x128 .bf16 := resid x0 (uCode0 v0 x0 x1 x2 x3 x4 x5 x6 x7 x8 x9 x10 x11 x12 x13 x14 x15) (uDen v0 x0 x1 x2 x3 x4 x5 x6 x7 x8 x9 x10 x11 x12 x13 x14 x15)
def uCode1 : FVec F S16x128 .bf16 := code0 (e2m1 (uOdd v0 x0 x1 x2 x3 x4 x5 x6 x7 x8 x9 x10 x11 x12 x13 x14 x15))
def uRes1 : FVec F S16x128 .bf16 := resid x1 (uCode1 v0 x0 x1 x2 x3 x4 x5 x6 x7 x8 x9 x10 x11 x12 x13 x14 x15) (uDen v0 x0 x1 x2 x3 x4 x5 x6 x7 x8 x9 x10 x11 x12 x13 x14 x15)
def uCode2 : FVec F S16x128 .bf16 := code1 (e2m1 (uEven v0 x0 x1 x2 x3 x4 x5 x6 x7 x8 x9 x10 x11 x12 x13 x14 x15))
def uRes2 : FVec F S16x128 .bf16 := resid x2 (uCode2 v0 x0 x1 x2 x3 x4 x5 x6 x7 x8 x9 x10 x11 x12 x13 x14 x15) (uDen v0 x0 x1 x2 x3 x4 x5 x6 x7 x8 x9 x10 x11 x12 x13 x14 x15)
def uCode3 : FVec F S16x128 .bf16 := code1 (e2m1 (uOdd v0 x0 x1 x2 x3 x4 x5 x6 x7 x8 x9 x10 x11 x12 x13 x14 x15))
def uRes3 : FVec F S16x128 .bf16 := resid x3 (uCode3 v0 x0 x1 x2 x3 x4 x5 x6 x7 x8 x9 x10 x11 x12 x13 x14 x15) (uDen v0 x0 x1 x2 x3 x4 x5 x6 x7 x8 x9 x10 x11 x12 x13 x14 x15)
def uCode4 : FVec F S16x128 .bf16 := code2 (e2m1 (uEven v0 x0 x1 x2 x3 x4 x5 x6 x7 x8 x9 x10 x11 x12 x13 x14 x15))
def uRes4 : FVec F S16x128 .bf16 := resid x4 (uCode4 v0 x0 x1 x2 x3 x4 x5 x6 x7 x8 x9 x10 x11 x12 x13 x14 x15) (uDen v0 x0 x1 x2 x3 x4 x5 x6 x7 x8 x9 x10 x11 x12 x13 x14 x15)
def uCode5 : FVec F S16x128 .bf16 := code2 (e2m1 (uOdd v0 x0 x1 x2 x3 x4 x5 x6 x7 x8 x9 x10 x11 x12 x13 x14 x15))
def uRes5 : FVec F S16x128 .bf16 := resid x5 (uCode5 v0 x0 x1 x2 x3 x4 x5 x6 x7 x8 x9 x10 x11 x12 x13 x14 x15) (uDen v0 x0 x1 x2 x3 x4 x5 x6 x7 x8 x9 x10 x11 x12 x13 x14 x15)
def uCode6 : FVec F S16x128 .bf16 := code3 (e2m1 (uEven v0 x0 x1 x2 x3 x4 x5 x6 x7 x8 x9 x10 x11 x12 x13 x14 x15))
def uRes6 : FVec F S16x128 .bf16 := resid x6 (uCode6 v0 x0 x1 x2 x3 x4 x5 x6 x7 x8 x9 x10 x11 x12 x13 x14 x15) (uDen v0 x0 x1 x2 x3 x4 x5 x6 x7 x8 x9 x10 x11 x12 x13 x14 x15)
def uCode7 : FVec F S16x128 .bf16 := code3 (e2m1 (uOdd v0 x0 x1 x2 x3 x4 x5 x6 x7 x8 x9 x10 x11 x12 x13 x14 x15))
def uRes7 : FVec F S16x128 .bf16 := resid x7 (uCode7 v0 x0 x1 x2 x3 x4 x5 x6 x7 x8 x9 x10 x11 x12 x13 x14 x15) (uDen v0 x0 x1 x2 x3 x4 x5 x6 x7 x8 x9 x10 x11 x12 x13 x14 x15)
def uCode8 : FVec F S16x128 .bf16 := code4 (e2m1 (uEven v0 x0 x1 x2 x3 x4 x5 x6 x7 x8 x9 x10 x11 x12 x13 x14 x15))
def uRes8 : FVec F S16x128 .bf16 := resid x8 (uCode8 v0 x0 x1 x2 x3 x4 x5 x6 x7 x8 x9 x10 x11 x12 x13 x14 x15) (uDen v0 x0 x1 x2 x3 x4 x5 x6 x7 x8 x9 x10 x11 x12 x13 x14 x15)
def uCode9 : FVec F S16x128 .bf16 := code4 (e2m1 (uOdd v0 x0 x1 x2 x3 x4 x5 x6 x7 x8 x9 x10 x11 x12 x13 x14 x15))
def uRes9 : FVec F S16x128 .bf16 := resid x9 (uCode9 v0 x0 x1 x2 x3 x4 x5 x6 x7 x8 x9 x10 x11 x12 x13 x14 x15) (uDen v0 x0 x1 x2 x3 x4 x5 x6 x7 x8 x9 x10 x11 x12 x13 x14 x15)
def uCode10 : FVec F S16x128 .bf16 := code5 (e2m1 (uEven v0 x0 x1 x2 x3 x4 x5 x6 x7 x8 x9 x10 x11 x12 x13 x14 x15))
def uRes10 : FVec F S16x128 .bf16 := resid x10 (uCode10 v0 x0 x1 x2 x3 x4 x5 x6 x7 x8 x9 x10 x11 x12 x13 x14 x15) (uDen v0 x0 x1 x2 x3 x4 x5 x6 x7 x8 x9 x10 x11 x12 x13 x14 x15)
def uCode11 : FVec F S16x128 .bf16 := code5 (e2m1 (uOdd v0 x0 x1 x2 x3 x4 x5 x6 x7 x8 x9 x10 x11 x12 x13 x14 x15))
def uRes11 : FVec F S16x128 .bf16 := resid x11 (uCode11 v0 x0 x1 x2 x3 x4 x5 x6 x7 x8 x9 x10 x11 x12 x13 x14 x15) (uDen v0 x0 x1 x2 x3 x4 x5 x6 x7 x8 x9 x10 x11 x12 x13 x14 x15)
def uCode12 : FVec F S16x128 .bf16 := code6 (e2m1 (uEven v0 x0 x1 x2 x3 x4 x5 x6 x7 x8 x9 x10 x11 x12 x13 x14 x15))
def uRes12 : FVec F S16x128 .bf16 := resid x12 (uCode12 v0 x0 x1 x2 x3 x4 x5 x6 x7 x8 x9 x10 x11 x12 x13 x14 x15) (uDen v0 x0 x1 x2 x3 x4 x5 x6 x7 x8 x9 x10 x11 x12 x13 x14 x15)
def uCode13 : FVec F S16x128 .bf16 := code6 (e2m1 (uOdd v0 x0 x1 x2 x3 x4 x5 x6 x7 x8 x9 x10 x11 x12 x13 x14 x15))
def uRes13 : FVec F S16x128 .bf16 := resid x13 (uCode13 v0 x0 x1 x2 x3 x4 x5 x6 x7 x8 x9 x10 x11 x12 x13 x14 x15) (uDen v0 x0 x1 x2 x3 x4 x5 x6 x7 x8 x9 x10 x11 x12 x13 x14 x15)
def uCode14 : FVec F S16x128 .bf16 := code7 (e2m1 (uEven v0 x0 x1 x2 x3 x4 x5 x6 x7 x8 x9 x10 x11 x12 x13 x14 x15))
def uRes14 : FVec F S16x128 .bf16 := resid x14 (uCode14 v0 x0 x1 x2 x3 x4 x5 x6 x7 x8 x9 x10 x11 x12 x13 x14 x15) (uDen v0 x0 x1 x2 x3 x4 x5 x6 x7 x8 x9 x10 x11 x12 x13 x14 x15)
def uCode15 : FVec F S16x128 .bf16 := code7 (e2m1 (uOdd v0 x0 x1 x2 x3 x4 x5 x6 x7 x8 x9 x10 x11 x12 x13 x14 x15))
def uRes15 : FVec F S16x128 .bf16 := resid x15 (uCode15 v0 x0 x1 x2 x3 x4 x5 x6 x7 x8 x9 x10 x11 x12 x13 x14 x15) (uDen v0 x0 x1 x2 x3 x4 x5 x6 x7 x8 x9 x10 x11 x12 x13 x14 x15)

def uRR : FVec F S16x128 .f32 :=
  dot16 (uRes0 v0 x0 x1 x2 x3 x4 x5 x6 x7 x8 x9 x10 x11 x12 x13 x14 x15)
      (uRes1 v0 x0 x1 x2 x3 x4 x5 x6 x7 x8 x9 x10 x11 x12 x13 x14 x15)
      (uRes2 v0 x0 x1 x2 x3 x4 x5 x6 x7 x8 x9 x10 x11 x12 x13 x14 x15)
      (uRes3 v0 x0 x1 x2 x3 x4 x5 x6 x7 x8 x9 x10 x11 x12 x13 x14 x15)
      (uRes4 v0 x0 x1 x2 x3 x4 x5 x6 x7 x8 x9 x10 x11 x12 x13 x14 x15)
      (uRes5 v0 x0 x1 x2 x3 x4 x5 x6 x7 x8 x9 x10 x11 x12 x13 x14 x15)
      (uRes6 v0 x0 x1 x2 x3 x4 x5 x6 x7 x8 x9 x10 x11 x12 x13 x14 x15)
      (uRes7 v0 x0 x1 x2 x3 x4 x5 x6 x7 x8 x9 x10 x11 x12 x13 x14 x15)
      (uRes8 v0 x0 x1 x2 x3 x4 x5 x6 x7 x8 x9 x10 x11 x12 x13 x14 x15)
      (uRes9 v0 x0 x1 x2 x3 x4 x5 x6 x7 x8 x9 x10 x11 x12 x13 x14 x15)
      (uRes10 v0 x0 x1 x2 x3 x4 x5 x6 x7 x8 x9 x10 x11 x12 x13 x14 x15)
      (uRes11 v0 x0 x1 x2 x3 x4 x5 x6 x7 x8 x9 x10 x11 x12 x13 x14 x15)
      (uRes12 v0 x0 x1 x2 x3 x4 x5 x6 x7 x8 x9 x10 x11 x12 x13 x14 x15)
      (uRes13 v0 x0 x1 x2 x3 x4 x5 x6 x7 x8 x9 x10 x11 x12 x13 x14 x15)
      (uRes14 v0 x0 x1 x2 x3 x4 x5 x6 x7 x8 x9 x10 x11 x12 x13 x14 x15)
      (uRes15 v0 x0 x1 x2 x3 x4 x5 x6 x7 x8 x9 x10 x11 x12 x13 x14 x15)
      (uRes0 v0 x0 x1 x2 x3 x4 x5 x6 x7 x8 x9 x10 x11 x12 x13 x14 x15)
      (uRes1 v0 x0 x1 x2 x3 x4 x5 x6 x7 x8 x9 x10 x11 x12 x13 x14 x15)
      (uRes2 v0 x0 x1 x2 x3 x4 x5 x6 x7 x8 x9 x10 x11 x12 x13 x14 x15)
      (uRes3 v0 x0 x1 x2 x3 x4 x5 x6 x7 x8 x9 x10 x11 x12 x13 x14 x15)
      (uRes4 v0 x0 x1 x2 x3 x4 x5 x6 x7 x8 x9 x10 x11 x12 x13 x14 x15)
      (uRes5 v0 x0 x1 x2 x3 x4 x5 x6 x7 x8 x9 x10 x11 x12 x13 x14 x15)
      (uRes6 v0 x0 x1 x2 x3 x4 x5 x6 x7 x8 x9 x10 x11 x12 x13 x14 x15)
      (uRes7 v0 x0 x1 x2 x3 x4 x5 x6 x7 x8 x9 x10 x11 x12 x13 x14 x15)
      (uRes8 v0 x0 x1 x2 x3 x4 x5 x6 x7 x8 x9 x10 x11 x12 x13 x14 x15)
      (uRes9 v0 x0 x1 x2 x3 x4 x5 x6 x7 x8 x9 x10 x11 x12 x13 x14 x15)
      (uRes10 v0 x0 x1 x2 x3 x4 x5 x6 x7 x8 x9 x10 x11 x12 x13 x14 x15)
      (uRes11 v0 x0 x1 x2 x3 x4 x5 x6 x7 x8 x9 x10 x11 x12 x13 x14 x15)
      (uRes12 v0 x0 x1 x2 x3 x4 x5 x6 x7 x8 x9 x10 x11 x12 x13 x14 x15)
      (uRes13 v0 x0 x1 x2 x3 x4 x5 x6 x7 x8 x9 x10 x11 x12 x13 x14 x15)
      (uRes14 v0 x0 x1 x2 x3 x4 x5 x6 x7 x8 x9 x10 x11 x12 x13 x14 x15)
      (uRes15 v0 x0 x1 x2 x3 x4 x5 x6 x7 x8 x9 x10 x11 x12 x13 x14 x15)
def uRC : FVec F S16x128 .f32 :=
  dot16 (uRes0 v0 x0 x1 x2 x3 x4 x5 x6 x7 x8 x9 x10 x11 x12 x13 x14 x15)
      (uRes1 v0 x0 x1 x2 x3 x4 x5 x6 x7 x8 x9 x10 x11 x12 x13 x14 x15)
      (uRes2 v0 x0 x1 x2 x3 x4 x5 x6 x7 x8 x9 x10 x11 x12 x13 x14 x15)
      (uRes3 v0 x0 x1 x2 x3 x4 x5 x6 x7 x8 x9 x10 x11 x12 x13 x14 x15)
      (uRes4 v0 x0 x1 x2 x3 x4 x5 x6 x7 x8 x9 x10 x11 x12 x13 x14 x15)
      (uRes5 v0 x0 x1 x2 x3 x4 x5 x6 x7 x8 x9 x10 x11 x12 x13 x14 x15)
      (uRes6 v0 x0 x1 x2 x3 x4 x5 x6 x7 x8 x9 x10 x11 x12 x13 x14 x15)
      (uRes7 v0 x0 x1 x2 x3 x4 x5 x6 x7 x8 x9 x10 x11 x12 x13 x14 x15)
      (uRes8 v0 x0 x1 x2 x3 x4 x5 x6 x7 x8 x9 x10 x11 x12 x13 x14 x15)
      (uRes9 v0 x0 x1 x2 x3 x4 x5 x6 x7 x8 x9 x10 x11 x12 x13 x14 x15)
      (uRes10 v0 x0 x1 x2 x3 x4 x5 x6 x7 x8 x9 x10 x11 x12 x13 x14 x15)
      (uRes11 v0 x0 x1 x2 x3 x4 x5 x6 x7 x8 x9 x10 x11 x12 x13 x14 x15)
      (uRes12 v0 x0 x1 x2 x3 x4 x5 x6 x7 x8 x9 x10 x11 x12 x13 x14 x15)
      (uRes13 v0 x0 x1 x2 x3 x4 x5 x6 x7 x8 x9 x10 x11 x12 x13 x14 x15)
      (uRes14 v0 x0 x1 x2 x3 x4 x5 x6 x7 x8 x9 x10 x11 x12 x13 x14 x15)
      (uRes15 v0 x0 x1 x2 x3 x4 x5 x6 x7 x8 x9 x10 x11 x12 x13 x14 x15)
      (uCode0 v0 x0 x1 x2 x3 x4 x5 x6 x7 x8 x9 x10 x11 x12 x13 x14 x15)
      (uCode1 v0 x0 x1 x2 x3 x4 x5 x6 x7 x8 x9 x10 x11 x12 x13 x14 x15)
      (uCode2 v0 x0 x1 x2 x3 x4 x5 x6 x7 x8 x9 x10 x11 x12 x13 x14 x15)
      (uCode3 v0 x0 x1 x2 x3 x4 x5 x6 x7 x8 x9 x10 x11 x12 x13 x14 x15)
      (uCode4 v0 x0 x1 x2 x3 x4 x5 x6 x7 x8 x9 x10 x11 x12 x13 x14 x15)
      (uCode5 v0 x0 x1 x2 x3 x4 x5 x6 x7 x8 x9 x10 x11 x12 x13 x14 x15)
      (uCode6 v0 x0 x1 x2 x3 x4 x5 x6 x7 x8 x9 x10 x11 x12 x13 x14 x15)
      (uCode7 v0 x0 x1 x2 x3 x4 x5 x6 x7 x8 x9 x10 x11 x12 x13 x14 x15)
      (uCode8 v0 x0 x1 x2 x3 x4 x5 x6 x7 x8 x9 x10 x11 x12 x13 x14 x15)
      (uCode9 v0 x0 x1 x2 x3 x4 x5 x6 x7 x8 x9 x10 x11 x12 x13 x14 x15)
      (uCode10 v0 x0 x1 x2 x3 x4 x5 x6 x7 x8 x9 x10 x11 x12 x13 x14 x15)
      (uCode11 v0 x0 x1 x2 x3 x4 x5 x6 x7 x8 x9 x10 x11 x12 x13 x14 x15)
      (uCode12 v0 x0 x1 x2 x3 x4 x5 x6 x7 x8 x9 x10 x11 x12 x13 x14 x15)
      (uCode13 v0 x0 x1 x2 x3 x4 x5 x6 x7 x8 x9 x10 x11 x12 x13 x14 x15)
      (uCode14 v0 x0 x1 x2 x3 x4 x5 x6 x7 x8 x9 x10 x11 x12 x13 x14 x15)
      (uCode15 v0 x0 x1 x2 x3 x4 x5 x6 x7 x8 x9 x10 x11 x12 x13 x14 x15)
def uCC : FVec F S16x128 .f32 :=
  dot16 (uCode0 v0 x0 x1 x2 x3 x4 x5 x6 x7 x8 x9 x10 x11 x12 x13 x14 x15)
      (uCode1 v0 x0 x1 x2 x3 x4 x5 x6 x7 x8 x9 x10 x11 x12 x13 x14 x15)
      (uCode2 v0 x0 x1 x2 x3 x4 x5 x6 x7 x8 x9 x10 x11 x12 x13 x14 x15)
      (uCode3 v0 x0 x1 x2 x3 x4 x5 x6 x7 x8 x9 x10 x11 x12 x13 x14 x15)
      (uCode4 v0 x0 x1 x2 x3 x4 x5 x6 x7 x8 x9 x10 x11 x12 x13 x14 x15)
      (uCode5 v0 x0 x1 x2 x3 x4 x5 x6 x7 x8 x9 x10 x11 x12 x13 x14 x15)
      (uCode6 v0 x0 x1 x2 x3 x4 x5 x6 x7 x8 x9 x10 x11 x12 x13 x14 x15)
      (uCode7 v0 x0 x1 x2 x3 x4 x5 x6 x7 x8 x9 x10 x11 x12 x13 x14 x15)
      (uCode8 v0 x0 x1 x2 x3 x4 x5 x6 x7 x8 x9 x10 x11 x12 x13 x14 x15)
      (uCode9 v0 x0 x1 x2 x3 x4 x5 x6 x7 x8 x9 x10 x11 x12 x13 x14 x15)
      (uCode10 v0 x0 x1 x2 x3 x4 x5 x6 x7 x8 x9 x10 x11 x12 x13 x14 x15)
      (uCode11 v0 x0 x1 x2 x3 x4 x5 x6 x7 x8 x9 x10 x11 x12 x13 x14 x15)
      (uCode12 v0 x0 x1 x2 x3 x4 x5 x6 x7 x8 x9 x10 x11 x12 x13 x14 x15)
      (uCode13 v0 x0 x1 x2 x3 x4 x5 x6 x7 x8 x9 x10 x11 x12 x13 x14 x15)
      (uCode14 v0 x0 x1 x2 x3 x4 x5 x6 x7 x8 x9 x10 x11 x12 x13 x14 x15)
      (uCode15 v0 x0 x1 x2 x3 x4 x5 x6 x7 x8 x9 x10 x11 x12 x13 x14 x15)
      (uCode0 v0 x0 x1 x2 x3 x4 x5 x6 x7 x8 x9 x10 x11 x12 x13 x14 x15)
      (uCode1 v0 x0 x1 x2 x3 x4 x5 x6 x7 x8 x9 x10 x11 x12 x13 x14 x15)
      (uCode2 v0 x0 x1 x2 x3 x4 x5 x6 x7 x8 x9 x10 x11 x12 x13 x14 x15)
      (uCode3 v0 x0 x1 x2 x3 x4 x5 x6 x7 x8 x9 x10 x11 x12 x13 x14 x15)
      (uCode4 v0 x0 x1 x2 x3 x4 x5 x6 x7 x8 x9 x10 x11 x12 x13 x14 x15)
      (uCode5 v0 x0 x1 x2 x3 x4 x5 x6 x7 x8 x9 x10 x11 x12 x13 x14 x15)
      (uCode6 v0 x0 x1 x2 x3 x4 x5 x6 x7 x8 x9 x10 x11 x12 x13 x14 x15)
      (uCode7 v0 x0 x1 x2 x3 x4 x5 x6 x7 x8 x9 x10 x11 x12 x13 x14 x15)
      (uCode8 v0 x0 x1 x2 x3 x4 x5 x6 x7 x8 x9 x10 x11 x12 x13 x14 x15)
      (uCode9 v0 x0 x1 x2 x3 x4 x5 x6 x7 x8 x9 x10 x11 x12 x13 x14 x15)
      (uCode10 v0 x0 x1 x2 x3 x4 x5 x6 x7 x8 x9 x10 x11 x12 x13 x14 x15)
      (uCode11 v0 x0 x1 x2 x3 x4 x5 x6 x7 x8 x9 x10 x11 x12 x13 x14 x15)
      (uCode12 v0 x0 x1 x2 x3 x4 x5 x6 x7 x8 x9 x10 x11 x12 x13 x14 x15)
      (uCode13 v0 x0 x1 x2 x3 x4 x5 x6 x7 x8 x9 x10 x11 x12 x13 x14 x15)
      (uCode14 v0 x0 x1 x2 x3 x4 x5 x6 x7 x8 x9 x10 x11 x12 x13 x14 x15)
      (uCode15 v0 x0 x1 x2 x3 x4 x5 x6 x7 x8 x9 x10 x11 x12 x13 x14 x15)
/-- What rounding the denominator left out. -/
def uLow : FVec F S16x128 .f32 := subf (uDen v0 x0 x1 x2 x3 x4 x5 x6 x7 x8 x9 x10 x11 x12 x13 x14 x15) (high6 (uDen v0 x0 x1 x2 x3 x4 x5 x6 x7 x8 x9 x10 x11 x12 x13 x14 x15))
def uError : FVec F S16x128 .f32 :=
  subf (uRR v0 x0 x1 x2 x3 x4 x5 x6 x7 x8 x9 x10 x11 x12 x13 x14 x15)
    (mulf (uLow v0 x0 x1 x2 x3 x4 x5 x6 x7 x8 x9 x10 x11 x12 x13 x14 x15)
      (subf (mulf (cst16 0x40000000#32) (uRC v0 x0 x1 x2 x3 x4 x5 x6 x7 x8 x9 x10 x11 x12 x13 x14 x15))
        (mulf (uLow v0 x0 x1 x2 x3 x4 x5 x6 x7 x8 x9 x10 x11 x12 x13 x14 x15)
          (uCC v0 x0 x1 x2 x3 x4 x5 x6 x7 x8 x9 x10 x11 x12 x13 x14 x15))))
end

/-- Eight nibbles to a word, negative zeros dropped. -/
def word (n : IVec S128x128 32) : IVec S16x128 32 :=
  multiReductionI .add [1] S16x128 (shli (shapeCast S16x8x128 n shapeCasts_S128x128_S16x8x128)
    (muli (iota .tc S16x8x128 32 [1] iota_S16x8x128_d1_w32) (broadcast S16x8x128 4#32))) 0#32 reduces_S16x8x128_S16x128 rfl
def noNegZero (x : IVec S16x128 32) : IVec S16x128 32 :=
  andi x (ori (subi (ori x (int16 2290649224#32)) (int16 286331153#32)) (int16 2004318071#32))

/-- The words of the even and of the odd columns interleaved nibble by nibble, as bytes. -/
def swap (e o : IVec S16x128 32) : IVec S16x128 32 := andi (xori (shrui e (int16 4#32)) o) (int16 252645135#32)
def bytes (e o : IVec S16x128 32) : IVec S128x128 8 :=
  concatenate S128x128 0 [⟨S64x128, bitcast S64x128 8 (xori e (shli (swap e o) (int16 4#32))) bitcasts_S16x128_w32_S64x128_w8⟩,
    ⟨S64x128, bitcast S64x128 8 (xori o (swap e o)) bitcasts_S16x128_w32_S64x128_w8⟩] concatenates_S64x128_S64x128_S128x128_d0

def lanes (l : Vec F S1x128 .i32) : IVec S32x128 32 :=
  broadcastTo S32x128 (shapeCast S1x128 (shapeCast S1x128 l shapeCasts_S1x128_S1x128) shapeCasts_S1x128_S1x128) broadcasts_S1x128_S32x128

/-- The bytes turned to one row per token, their columns taken in the order of the lane indices. -/
def turned (l : Vec F S1x128 .i32) (b : IVec S128x128 8) : IVec S128x128 8 :=
  bitcast S128x128 8 (dynamicGather 1 (bitcast S32x128 32 (transpose S128x128 [1, 0] b transposes_S128x128_p1_0_S128x128)
      bitcasts_S128x128_w8_S32x128_w32)
    (shapeCast S32x128 (shapeCast S32x128x1 (select (cmpi .slt (lanes l) (int32 0#32)) (addi (lanes l) (int32 128#32)) (lanes l))
      shapeCasts_S32x128_S32x128x1) shapeCasts_S32x128x1_S32x128)) bitcasts_S32x128_w32_S128x128_w8

def uBytes (v0 : Elt F .f32) (x0 x1 x2 x3 x4 x5 x6 x7 x8 x9 x10 x11 x12 x13 x14 x15 : Vec F S1x16x128 .f32) (l : Vec F S1x128 .i32) : IVec S128x128 8 :=
  turned l (bytes (noNegZero (word (nibble (uEven v0 x0 x1 x2 x3 x4 x5 x6 x7 x8 x9 x10 x11 x12 x13 x14 x15))))
    (noNegZero (word (nibble (uOdd v0 x0 x1 x2 x3 x4 x5 x6 x7 x8 x9 x10 x11 x12 x13 x14 x15)))))

def back (v : FVec F S16x128 .f32) : FVec F S1x16x128 .f32 := shapeCast S1x16x128 v shapeCasts_S16x128_S1x16x128

section
variable (i : grid0.Coords) (arg3 : Memref sig .tc .vmem S256x256 .bf16) (arg4 : Memref sig .tc .vmem S1x128 .i32)
  (arg5 : Memref sig .tc .vmem S256x25600 .bf16) (arg7 : Memref sig .tc .vmem S1x1600x256 .f32)
  (arg8 : Memref sig .tc .vmem S1x1600x256 .f32) (arg9 : Memref sig .tc .vmem S256x12800 .i8) (harg9 : arg9.IsWhole)
  (arg10 : Memref sig .tc .vmem S1x1600x256 .fp8e4m3) (harg10 : arg10.IsWhole) (arg11 : Memref sig .tc .vmem S2x256x256 .f32)

/-- One unit: the sixteen slices read, the three stores of the half tile. -/
def unitProg (v0 : Elt F .f32) (off : ℕ → Fin 3 → ℕ) (hoff : ∀ j : Fin 16, ∀ a, off j.val a + S1x16x128.size a ≤ S2x256x256.size a)
    (o2 : Fin 3 → ℕ) (h2 : ∀ a, o2 a + S1x16x128.size a ≤ S1x1600x256.size a)
    (o3 : Fin 2 → ℕ) (h3 : ∀ a, o3 a + S128x128.size a ≤ S256x12800.size a)
    (p3 : (Rect.unit (s := S256x12800) o3 S128x128.size h3).PackedRows (EltTy.packing .i8)) :
    Prog (TpuEff nD τ sig (Elt F) Λ₀ .tc) (FVec F S16x128 .f32 × FVec F S16x128 .f32 × FVec F S16x128 .f32) := do
  let x0 : Vec F S1x16x128 .f32 ← Prog.lift (.load arg11 (Rect.unit (s := S2x256x256) (off 0) S1x16x128.size (hoff 0)).toLoadRect (View.loadsAt_vmem h_S1x16x128))
  let x1 : Vec F S1x16x128 .f32 ← Prog.lift (.load arg11 (Rect.unit (s := S2x256x256) (off 1) S1x16x128.size (hoff 1)).toLoadRect (View.loadsAt_vmem h_S1x16x128))
  let x2 : Vec F S1x16x128 .f32 ← Prog.lift (.load arg11 (Rect.unit (s := S2x256x256) (off 2) S1x16x128.size (hoff 2)).toLoadRect (View.loadsAt_vmem h_S1x16x128))
  let x3 : Vec F S1x16x128 .f32 ← Prog.lift (.load arg11 (Rect.unit (s := S2x256x256) (off 3) S1x16x128.size (hoff 3)).toLoadRect (View.loadsAt_vmem h_S1x16x128))
  let x4 : Vec F S1x16x128 .f32 ← Prog.lift (.load arg11 (Rect.unit (s := S2x256x256) (off 4) S1x16x128.size (hoff 4)).toLoadRect (View.loadsAt_vmem h_S1x16x128))
  let x5 : Vec F S1x16x128 .f32 ← Prog.lift (.load arg11 (Rect.unit (s := S2x256x256) (off 5) S1x16x128.size (hoff 5)).toLoadRect (View.loadsAt_vmem h_S1x16x128))
  let x6 : Vec F S1x16x128 .f32 ← Prog.lift (.load arg11 (Rect.unit (s := S2x256x256) (off 6) S1x16x128.size (hoff 6)).toLoadRect (View.loadsAt_vmem h_S1x16x128))
  let x7 : Vec F S1x16x128 .f32 ← Prog.lift (.load arg11 (Rect.unit (s := S2x256x256) (off 7) S1x16x128.size (hoff 7)).toLoadRect (View.loadsAt_vmem h_S1x16x128))
  let x8 : Vec F S1x16x128 .f32 ← Prog.lift (.load arg11 (Rect.unit (s := S2x256x256) (off 8) S1x16x128.size (hoff 8)).toLoadRect (View.loadsAt_vmem h_S1x16x128))
  let x9 : Vec F S1x16x128 .f32 ← Prog.lift (.load arg11 (Rect.unit (s := S2x256x256) (off 9) S1x16x128.size (hoff 9)).toLoadRect (View.loadsAt_vmem h_S1x16x128))
  let x10 : Vec F S1x16x128 .f32 ← Prog.lift (.load arg11 (Rect.unit (s := S2x256x256) (off 10) S1x16x128.size (hoff 10)).toLoadRect (View.loadsAt_vmem h_S1x16x128))
  let x11 : Vec F S1x16x128 .f32 ← Prog.lift (.load arg11 (Rect.unit (s := S2x256x256) (off 11) S1x16x128.size (hoff 11)).toLoadRect (View.loadsAt_vmem h_S1x16x128))
  let x12 : Vec F S1x16x128 .f32 ← Prog.lift (.load arg11 (Rect.unit (s := S2x256x256) (off 12) S1x16x128.size (hoff 12)).toLoadRect (View.loadsAt_vmem h_S1x16x128))
  let x13 : Vec F S1x16x128 .f32 ← Prog.lift (.load arg11 (Rect.unit (s := S2x256x256) (off 13) S1x16x128.size (hoff 13)).toLoadRect (View.loadsAt_vmem h_S1x16x128))
  let x14 : Vec F S1x16x128 .f32 ← Prog.lift (.load arg11 (Rect.unit (s := S2x256x256) (off 14) S1x16x128.size (hoff 14)).toLoadRect (View.loadsAt_vmem h_S1x16x128))
  let x15 : Vec F S1x16x128 .f32 ← Prog.lift (.load arg11 (Rect.unit (s := S2x256x256) (off 15) S1x16x128.size (hoff 15)).toLoadRect (View.loadsAt_vmem h_S1x16x128))
  let _w : Vec F S1x16x128 .f32 ← Prog.lift (.load arg7 (Rect.unit (s := S1x1600x256) o2 S1x16x128.size h2).toLoadRect (View.loadsAt_vmem h_S1x16x128))
  Prog.lift (.store arg7 (Rect.unit (s := S1x1600x256) o2 S1x16x128.size h2) (back (uSignal x0 x1 x2 x3 x4 x5 x6 x7 x8 x9 x10 x11 x12 x13 x14 x15)) Finset.univ (View.stores_vmem_bits_univ h_S1x16x128 rfl) (.inl rfl))
  let _w : Vec F S1x16x128 .f32 ← Prog.lift (.load arg8 (Rect.unit (s := S1x1600x256) o2 S1x16x128.size h2).toLoadRect (View.loadsAt_vmem h_S1x16x128))
  Prog.lift (.store arg8 (Rect.unit (s := S1x1600x256) o2 S1x16x128.size h2) (back (uError v0 x0 x1 x2 x3 x4 x5 x6 x7 x8 x9 x10 x11 x12 x13 x14 x15)) Finset.univ (View.stores_vmem_bits_univ h_S1x16x128 rfl) (.inl rfl))
  let l : Vec F S1x128 .i32 ← Prog.lift (.load arg4 (Rect.unit (s := S1x128) ![0, 0] S1x128.size inb_S1x128_S1x128_0_0).toLoadRect (View.loadsAt_vmem h_S1x128))
  let _w : Vec F S128x128 .i8 ← Prog.lift (.load arg9 (Rect.unit (s := S256x12800) o3 S128x128.size h3).toLoadRect (View.loadsAt_vmem h_S128x128))
  Prog.lift (.store arg9 (Rect.unit (s := S256x12800) o3 S128x128.size h3) (uBytes v0 x0 x1 x2 x3 x4 x5 x6 x7 x8 x9 x10 x11 x12 x13 x14 x15 l) Finset.univ (View.stores_vmem h_S128x128 (harg9.storeExact_slice rfl _ p3) (fun _ => rfl)) (.inl rfl))
  pure (uSignal x0 x1 x2 x3 x4 x5 x6 x7 x8 x9 x10 x11 x12 x13 x14 x15, uError v0 x0 x1 x2 x3 x4 x5 x6 x7 x8 x9 x10 x11 x12 x13 x14 x15, uScale v0 x0 x1 x2 x3 x4 x5 x6 x7 x8 x9 x10 x11 x12 x13 x14 x15)

/-- The next tile multiplied by the permutation into the other slot of the scratch. -/
def fetchProg (o1 : Fin 2 → ℕ) (h1 : ∀ a, o1 a + S256x256.size a ≤ S256x25600.size a) (o : Fin 3 → ℕ)
    (h : ∀ a, o a + S1x256x256.size a ≤ S2x256x256.size a) : Prog (TpuEff nD τ sig (Elt F) Λ₀ .tc) PUnit := do
  let x : Vec F S256x256 .bf16 ← Prog.lift (.load arg5 (Rect.unit (s := S256x25600) o1 S256x256.size h1).toLoadRect (View.loadsAt_vmem h_S256x256))
  let p : Vec F S256x256 .bf16 ← Prog.lift (.load arg3 (Rect.unit (s := S256x256) ![0, 0] S256x256.size inb_S256x256_S256x256_0_0).toLoadRect (View.loadsAt_vmem h_S256x256))
  let _w : Vec F S1x256x256 .f32 ← Prog.lift (.load arg11 (Rect.unit (s := S2x256x256) o S1x256x256.size h).toLoadRect (View.loadsAt_vmem h_S1x256x256))
  Prog.lift (.store arg11 (Rect.unit (s := S2x256x256) o S1x256x256.size h) (k0_pay3 x p) Finset.univ (View.stores_vmem_bits_univ h_S1x256x256 rfl) (.inl rfl))

theorem slices_inb (s h : Fin 2) (j : Fin 16) (a : Fin 3) :
    (![s.val, 16 * j.val, 128 * h.val] : Fin 3 → ℕ) a + S1x16x128.size a ≤ S2x256x256.size a := by
  revert s h j a; decide

def halves (a b : FVec F S16x128 .f32) : FVec F S16x256 .f32 :=
  concatenate S16x256 1 [⟨S16x128, a⟩, ⟨S16x128, b⟩] concatenates_S16x128_S16x128_S16x256_d1
def fourTiles (a b c d : FVec F S16x256 .f32) : FVec F S1x64x256 .fp8e4m3 :=
  shapeCast S1x64x256 (truncf .fp8e4m3 (concatenate S64x256 0 [⟨S16x256, a⟩, ⟨S16x256, b⟩, ⟨S16x256, c⟩, ⟨S16x256, d⟩]
    concatenates_S16x256_S16x256_S16x256_S16x256_S64x256_d0) bitsLt_fp8e4m3_f32) shapeCasts_S64x256_S1x64x256

/-- One trip of the loop: four tiles, each the next tile's fetch and two units; then the four tiles' scales. -/
def tripProg (v0 : Elt F .f32) : Fin k0_t1_loop.trips →
    FVec F S16x128 .f32 × FVec F S16x128 .f32 × FVec F S16x128 .f32 × FVec F S16x128 .f32 →
    Prog (TpuEff nD τ sig (Elt F) Λ₀ .tc) (FVec F S16x128 .f32 × FVec F S16x128 .f32 × FVec F S16x128 .f32 × FVec F S16x128 .f32) :=
  fun k (sa, ea, sb, eb) => do
    fetchProg arg3 arg5 arg11 (k0_off1 k 0#32) (k0_off1_inb k 0) ![1, 0, 0] inb_S2x256x256_S1x256x256_1_0_0
    let (s0a, e0a, c0a) ← unitProg arg4 arg7 arg8 arg9 harg9 arg11 v0 (fun j => ![0, 16 * j, 0]) (slices_inb 0 0)
      (k0_off2 k 0#32) (k0_off2_inb k 0) (k0_off3 k 0#32) (k0_off3_inb k 0) (k0_off3_packedi8 k 0)
    let (s0b, e0b, c0b) ← unitProg arg4 arg7 arg8 arg9 harg9 arg11 v0 (fun j => ![0, 16 * j, 128]) (slices_inb 0 1)
      (k0_off4 k 0#32) (k0_off4_inb k 0) (k0_off5 k 0#32) (k0_off5_inb k 0) (k0_off5_packedi8 k 0)
    fetchProg arg3 arg5 arg11 (k0_off1 k 1#32) (k0_off1_inb k 1) ![0, 0, 0] inb_S2x256x256_S1x256x256_0_0_0
    let (s1a, e1a, c1a) ← unitProg arg4 arg7 arg8 arg9 harg9 arg11 v0 (fun j => ![1, 16 * j, 0]) (slices_inb 1 0)
      (k0_off2 k 1#32) (k0_off2_inb k 1) (k0_off3 k 1#32) (k0_off3_inb k 1) (k0_off3_packedi8 k 1)
    let (s1b, e1b, c1b) ← unitProg arg4 arg7 arg8 arg9 harg9 arg11 v0 (fun j => ![1, 16 * j, 128]) (slices_inb 1 1)
      (k0_off4 k 1#32) (k0_off4_inb k 1) (k0_off5 k 1#32) (k0_off5_inb k 1) (k0_off5_packedi8 k 1)
    fetchProg arg3 arg5 arg11 (k0_off1 k 2#32) (k0_off1_inb k 2) ![1, 0, 0] inb_S2x256x256_S1x256x256_1_0_0
    let (s2a, e2a, c2a) ← unitProg arg4 arg7 arg8 arg9 harg9 arg11 v0 (fun j => ![0, 16 * j, 0]) (slices_inb 0 0)
      (k0_off2 k 2#32) (k0_off2_inb k 2) (k0_off3 k 2#32) (k0_off3_inb k 2) (k0_off3_packedi8 k 2)
    let (s2b, e2b, c2b) ← unitProg arg4 arg7 arg8 arg9 harg9 arg11 v0 (fun j => ![0, 16 * j, 128]) (slices_inb 0 1)
      (k0_off4 k 2#32) (k0_off4_inb k 2) (k0_off5 k 2#32) (k0_off5_inb k 2) (k0_off5_packedi8 k 2)
    fetchProg arg3 arg5 arg11 (k0_off1 k 3#32) (k0_off1_inb k 3) ![0, 0, 0] inb_S2x256x256_S1x256x256_0_0_0
    let (s3a, e3a, c3a) ← unitProg arg4 arg7 arg8 arg9 harg9 arg11 v0 (fun j => ![1, 16 * j, 0]) (slices_inb 1 0)
      (k0_off2 k 3#32) (k0_off2_inb k 3) (k0_off3 k 3#32) (k0_off3_inb k 3) (k0_off3_packedi8 k 3)
    let (s3b, e3b, c3b) ← unitProg arg4 arg7 arg8 arg9 harg9 arg11 v0 (fun j => ![1, 16 * j, 128]) (slices_inb 1 1)
      (k0_off4 k 3#32) (k0_off4_inb k 3) (k0_off5 k 3#32) (k0_off5_inb k 3) (k0_off5_packedi8 k 3)
    let _w : Vec F S1x64x256 .fp8e4m3 ← Prog.lift (.load arg10 (Rect.unit (s := S1x1600x256) (k0_off6 k) S1x64x256.size (k0_off6_inb k)).toLoadRect (View.loadsAt_vmem h_S1x64x256))
    Prog.lift (.store arg10 (Rect.unit (s := S1x1600x256) (k0_off6 k) S1x64x256.size (k0_off6_inb k))
      (fourTiles (halves c0a c0b) (halves c1a c1b) (halves c2a c2b) (halves c3a c3b)) Finset.univ
      (View.stores_vmem h_S1x64x256 (harg10.storeExact_slice rfl _ (k0_off6_packedfp8e4m3 k)) (fun _ => rfl)) (.inl rfl))
    pure (addf (addf (addf (addf sa s0a) s1a) s2a) s3a, addf (addf (addf (addf ea e0a) e1a) e2a) e3a,
      addf (addf (addf (addf sb s0b) s1b) s2b) s3b, addf (addf (addf (addf eb e0b) e1b) e2b) e3b)
end

end Cert.KernelIdeal.Quant
-- ==== Proof.QuantTrip.lean ====
/-
  THE LOOP'S REGION IS EIGHT UNITS: the printed text of one trip and the program of QuantUnit.lean are the same.
-/
module

public import proofs.«01_k».proof.Proof.QuantUnit
public import Idealize.ShloMosaic.Lib.Pipeline.Regions

@[expose] public section

set_option maxRecDepth 100000
set_option maxHeartbeats 0

noncomputable section

open Idealize.ShloMosaic Idealize.ShloMosaic.TcCoe Idealize.SL.Sem

namespace Cert.KernelIdeal.Quant

open Cert.KernelIdeal Cert.KernelIdeal.Gen

variable {F : FTy → Type} [FloatOps F]

theorem body_eq (i : grid0.Coords) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole) (arg5 : Memref sig .tc .vmem S256x25600 .bf16) (harg5 : arg5.IsWhole) (arg6 : Memref sig .tc .vmem S1x1x256 .f32) (harg6 : arg6.IsWhole) (arg7 : Memref sig .tc .vmem S1x1600x256 .f32) (harg7 : arg7.IsWhole) (arg8 : Memref sig .tc .vmem S1x1600x256 .f32) (harg8 : arg8.IsWhole) (arg9 : Memref sig .tc .vmem S256x12800 .i8) (harg9 : arg9.IsWhole) (arg10 : Memref sig .tc .vmem S1x1600x256 .fp8e4m3) (harg10 : arg10.IsWhole) (arg11 : Memref sig .tc .vmem S2x256x256 .f32) (harg11 : arg11.IsWhole) (v0 : Elt F .f32) :
    k0_t1_body (F := F) i arg2 harg2 arg3 harg3 arg4 harg4 arg5 harg5 arg6 harg6 arg7 harg7 arg8 harg8 arg9 harg9 arg10 harg10 arg11 harg11 v0 =
      tripProg arg3 arg4 arg5 arg7 arg8 arg9 harg9 arg10 harg10 arg11 v0 := by
  funext k c
  obtain ⟨sa, ea, sb, eb⟩ := c
  chain_rfl

end Cert.KernelIdeal.Quant
-- ==== Proof.QuantStep.lean ====
/-
  ONE TRIP OF THE LOOP: what the eight units of a trip leave in the results' buffers, said of the tiles themselves. A tile is
  the product of the permutation with 256 tokens' 256 features; the scratch holds the current tile in one slot while the
  next is put in the other.
-/
module

public import proofs.«01_k».proof.Proof.QuantTrip
public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.Value
public import Idealize.ShloMosaic.Lib.Pipeline.ValueKit

@[expose] public section

set_option maxRecDepth 8192
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Quant

open Cert.KernelIdeal Cert.KernelIdeal.Gen

variable {F : FTy → Type} [FloatOps F]

local notation "𝕄G" => MT nD τ sig Unit (Elt F) ℕ (UR sig nD τ) ℕ

/-! ## The tiles and what a unit makes of a half of one -/

/-- The sixteen pair rows' slices of half `h` of a tile: slice `j` has one row per block of the tile, one column per token. -/
def half (T : Vec F S1x256x256 .f32) (h : Fin 2) : Fin 16 → Vec F S1x16x128 .f32 :=
  fun j => View.ld T (Rect.unit (s := S1x256x256) ![0, 16 * j.val, 128 * h.val] S1x16x128.size
    (by revert h j; decide))

def sigOf (sl : Fin 16 → Vec F S1x16x128 .f32) : FVec F S16x128 .f32 := uSignal (sl 0) (sl 1) (sl 2) (sl 3) (sl 4) (sl 5) (sl 6) (sl 7) (sl 8) (sl 9) (sl 10) (sl 11) (sl 12) (sl 13) (sl 14) (sl 15)
def errOf (v0 : Elt F .f32) (sl : Fin 16 → Vec F S1x16x128 .f32) : FVec F S16x128 .f32 := uError v0 (sl 0) (sl 1) (sl 2) (sl 3) (sl 4) (sl 5) (sl 6) (sl 7) (sl 8) (sl 9) (sl 10) (sl 11) (sl 12) (sl 13) (sl 14) (sl 15)
def scaleOf (v0 : Elt F .f32) (sl : Fin 16 → Vec F S1x16x128 .f32) : FVec F S16x128 .f32 := uScale v0 (sl 0) (sl 1) (sl 2) (sl 3) (sl 4) (sl 5) (sl 6) (sl 7) (sl 8) (sl 9) (sl 10) (sl 11) (sl 12) (sl 13) (sl 14) (sl 15)
def bytesOf (v0 : Elt F .f32) (sl : Fin 16 → Vec F S1x16x128 .f32) (l : Vec F S1x128 .i32) : IVec S128x128 8 := uBytes v0 (sl 0) (sl 1) (sl 2) (sl 3) (sl 4) (sl 5) (sl 6) (sl 7) (sl 8) (sl 9) (sl 10) (sl 11) (sl 12) (sl 13) (sl 14) (sl 15) l

/-- The feature at which tile `t` begins; a tile past the last is the last. -/
def tileOff (t : ℕ) : Fin 2 → ℕ := ![0, 256 * min t 99]
theorem tileOff_inb (t : ℕ) : ∀ a, tileOff t a + S256x256.size a ≤ S256x25600.size a := by
  have := Nat.min_le_right t 99
  intro a; fin_cases a
  · show 0 + 256 ≤ 256; omega
  · show 256 * min t 99 + 256 ≤ 25600; omega

/-- Tile `t` of the tokens `x5`, turned by the permutation `x3`. -/
def tile (x5 : Vec F S256x25600 .bf16) (x3 : Vec F S256x256 .bf16) (t : ℕ) : Vec F S1x256x256 .f32 :=
  k0_pay3 (View.ld x5 (Rect.unit (s := S256x25600) (tileOff t) S256x256.size (tileOff_inb t))) x3

/-- What slot `s` of the scratch holds. -/
def slot (d : Vec F S2x256x256 .f32) (s : Fin 2) : Vec F S1x256x256 .f32 :=
  View.ld d (Rect.unit (s := S2x256x256) ![s.val, 0, 0] S1x256x256.size (by revert s; decide))

/-- Where tile `t`'s half `h` goes in the sums and in the bytes. -/
def off7 (t : ℕ) (h : Fin 2) : Fin 3 → ℕ := ![0, 16 * min t 99, 128 * h.val]
theorem off7_inb (t : ℕ) (h : Fin 2) : ∀ a, off7 t h a + S1x16x128.size a ≤ S1x1600x256.size a := by
  have := Nat.min_le_right t 99
  have := h.isLt
  intro a; fin_cases a
  · show 0 + 1 ≤ 1; omega
  · show 16 * min t 99 + 16 ≤ 1600; omega
  · show 128 * h.val + 128 ≤ 256; omega
def off9 (t : ℕ) (h : Fin 2) : Fin 2 → ℕ := ![128 * h.val, 128 * min t 99]
theorem off9_inb (t : ℕ) (h : Fin 2) : ∀ a, off9 t h a + S128x128.size a ≤ S256x12800.size a := by
  have := Nat.min_le_right t 99
  have := h.isLt
  intro a; fin_cases a
  · show 128 * h.val + 128 ≤ 256; omega
  · show 128 * min t 99 + 128 ≤ 12800; omega
def off10 (k : ℕ) : Fin 3 → ℕ := ![0, 64 * min k 24, 0]
theorem off10_inb (k : ℕ) : ∀ a, off10 k a + S1x64x256.size a ≤ S1x1600x256.size a := by
  have := Nat.min_le_right k 24
  intro a; fin_cases a
  · show 0 + 1 ≤ 1; omega
  · show 64 * min k 24 + 64 ≤ 1600; omega
  · show 0 + 256 ≤ 256; omega

def piece7 (t : ℕ) (h : Fin 2) (w : FVec F S16x128 .f32) : View.Piece (Elt F) S1x1600x256 .f32 :=
  ⟨Rect.unit (s := S1x1600x256) (off7 t h) S1x16x128.size (off7_inb t h), back w⟩
def piece9 (t : ℕ) (h : Fin 2) (w : IVec S128x128 8) : View.Piece (Elt F) S256x12800 .i8 :=
  ⟨Rect.unit (s := S256x12800) (off9 t h) S128x128.size (off9_inb t h), w⟩
def piece10 (k : ℕ) (w : FVec F S1x64x256 .fp8e4m3) : View.Piece (Elt F) S1x1600x256 .fp8e4m3 :=
  ⟨Rect.unit (s := S1x1600x256) (off10 k) S1x64x256.size (off10_inb k), w⟩

section
variable (c : Dev nD) (arg3 : Memref sig .tc .vmem S256x256 .bf16) (arg4 : Memref sig .tc .vmem S1x128 .i32)
  (arg5 : Memref sig .tc .vmem S256x25600 .bf16) (arg7 : Memref sig .tc .vmem S1x1600x256 .f32) (harg7 : arg7.IsWhole)
  (arg8 : Memref sig .tc .vmem S1x1600x256 .f32) (harg8 : arg8.IsWhole) (arg9 : Memref sig .tc .vmem S256x12800 .i8) (harg9 : arg9.IsWhole)
  (arg10 : Memref sig .tc .vmem S1x1600x256 .fp8e4m3) (harg10 : arg10.IsWhole) (arg11 : Memref sig .tc .vmem S2x256x256 .f32)
  (harg11 : arg11.IsWhole)
  (X3 : BufTy.Contents (Elt F) arg3.view.ty) (X4 : BufTy.Contents (Elt F) arg4.view.ty) (X5 : BufTy.Contents (Elt F) arg5.view.ty)

/-- The buffers a trip touches, at their contents. -/
def St (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) : sProp 𝕄G :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10) ∗ (arg11.view.loc (c : Thread nD τ) ↦[arg11.view.set]{fullShare} f11))

variable (𝒱 : Variants) (bd : Option 𝒱.V) (E : Set ℕ)
variable (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty)

/-- A fetch leaves the tile in its slot. -/
theorem fetch_run (o1 : Fin 2 → ℕ) (h1 : ∀ a, o1 a + S256x256.size a ≤ S256x25600.size a) (o : Fin 3 → ℕ)
    (h : ∀ a, o a + S1x256x256.size a ≤ S2x256x256.size a) (t : ℕ) (ho1 : o1 = tileOff t)
    (x3 : Vec F S256x256 .bf16) (hx3 : x3 = arg3.view.read (Elt F) X3) (x5 : Vec F S256x25600 .bf16) (hx5 : x5 = arg5.view.read (Elt F) X5)
    (T : Vec F S1x256x256 .f32) (hT : T = tile x5 x3 t) :
    St c arg3 arg4 arg5 arg7 arg8 arg9 arg10 arg11 X3 X4 X5 f7 f8 f9 f10 f11 ⊢ wp frame (wpE (defs₀ (F := F)) 𝒱 (c : Thread nD τ) bd) E (fetchProg arg3 arg5 arg11 o1 h1 o h)
      (fun _ => St c arg3 arg4 arg5 arg7 arg8 arg9 arg10 arg11 X3 X4 X5 f7 f8 f9 f10 (arg11.view.writes (Elt F) f11 [⟨Rect.unit (s := S2x256x256) o S1x256x256.size h, T⟩])) := by
  have h3 : arg3.view.readAt (Elt F) (Rect.unit (s := S256x256) ![0, 0] S256x256.size inb_S256x256_S256x256_0_0).toLoadRect X3 = x3 := by
    rw [hx3, View.readAt_eq_ld, View.ld_unit_zero (by funext a; fin_cases a <;> rfl)]
  have h5 : arg5.view.readAt (Elt F) (Rect.unit (s := S256x25600) o1 S256x256.size h1).toLoadRect X5
      = View.ld x5 (Rect.unit (s := S256x25600) (tileOff t) S256x256.size (tileOff_inb t)) := by
    subst ho1; rw [hx5, View.readAt_eq_ld]
  subst hT
  unfold tile
  clear hx3 hx5
  unfold St fetchProg
  iintro ⟨HR_arg3, HR_arg4, HR_arg5, HW_arg7, HW_arg8, HW_arg9, HW_arg10, HW_arg11⟩
  sl_exec
  sl_step
  sl_close

/-- A unit leaves its half tile's sums and bytes in their places. -/
theorem unit_run (v0 : Elt F .f32) (off : ℕ → Fin 3 → ℕ) (hoff : ∀ j : Fin 16, ∀ a, off j.val a + S1x16x128.size a ≤ S2x256x256.size a)
    (o2 : Fin 3 → ℕ) (h2 : ∀ a, o2 a + S1x16x128.size a ≤ S1x1600x256.size a)
    (o3 : Fin 2 → ℕ) (h3 : ∀ a, o3 a + S128x128.size a ≤ S256x12800.size a)
    (p3 : (Rect.unit (s := S256x12800) o3 S128x128.size h3).PackedRows (EltTy.packing .i8))
    (s h : Fin 2) (t : ℕ) (hoffs : off = fun j => ![s.val, 16 * j, 128 * h.val]) (ho2 : o2 = off7 t h) (ho3 : o3 = off9 t h)
    (x4 : Vec F S1x128 .i32) (hx4 : x4 = arg4.view.read (Elt F) X4)
    (T : Vec F S1x256x256 .f32) (hT : slot (arg11.view.read (Elt F) f11) s = T) :
    St c arg3 arg4 arg5 arg7 arg8 arg9 arg10 arg11 X3 X4 X5 f7 f8 f9 f10 f11 ⊢ wp frame (wpE (defs₀ (F := F)) 𝒱 (c : Thread nD τ) bd) E (unitProg arg4 arg7 arg8 arg9 harg9 arg11 v0 off hoff o2 h2 o3 h3 p3)
      (fun y => iprop(⌜y = (sigOf (half T h), errOf v0 (half T h), scaleOf v0 (half T h))⌝ ∗
        St c arg3 arg4 arg5 arg7 arg8 arg9 arg10 arg11 X3 X4 X5 (arg7.view.writes (Elt F) f7 [piece7 t h (sigOf (half T h))]) (arg8.view.writes (Elt F) f8 [piece7 t h (errOf v0 (half T h))]) (arg9.view.writes (Elt F) f9 [piece9 t h (bytesOf v0 (half T h) x4)]) f10 f11)) := by
  have hl : x4 = arg4.view.readAt (Elt F) (Rect.unit (s := S1x128) ![0, 0] S1x128.size inb_S1x128_S1x128_0_0).toLoadRect X4 := by
    rw [hx4, View.readAt_eq_ld, View.ld_unit_zero (by funext a; fin_cases a <;> rfl)]
  have hsl : half T h = fun j : Fin 16 => arg11.view.readAt (Elt F) (Rect.unit (s := S2x256x256) (off j.val) S1x16x128.size (hoff j)).toLoadRect f11 := by
    subst hoffs hT
    funext j
    rw [View.readAt_eq_ld]
    funext x
    unfold half slot
    rw [View.ld_apply, View.ld_apply, View.ld_apply]
    congr 1
    funext a
    apply Fin.ext
    fin_cases a <;> simp [Rect.idx_unit_val]
  subst ho2 ho3
  generalize half T h = sl at *
  clear hx4 hT
  subst hsl hl
  unfold St unitProg piece7 piece9 sigOf errOf scaleOf bytesOf
  iintro ⟨HR_arg3, HR_arg4, HR_arg5, HW_arg7, HW_arg8, HW_arg9, HW_arg10, HR_arg11⟩
  sl_exec
  sl_step
  sl_close
end

end Cert.KernelIdeal.Quant
-- ==== Proof.QuantLoop.lean ====
/-
  THE LOOP: after `k` trips the results' buffers hold what the first `8 k` units wrote, the carried sums are the running
  sums, and the scratch's first slot holds the next tile.
-/
module

public import proofs.«01_k».proof.Proof.QuantStep

@[expose] public section

set_option maxRecDepth 8192
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.Quant

open Cert.KernelIdeal Cert.KernelIdeal.Gen

variable {F : FTy → Type} [FloatOps F]

local notation "𝕄G" => MT nD τ sig Unit (Elt F) ℕ (UR sig nD τ) ℕ

theorem run_bind {α β : Type} (c : Dev nD) {𝒱 : Variants} {bd : Option 𝒱.V} {E : Set ℕ} {P : sProp 𝕄G} {p : Prog (TpuEff nD τ sig (Elt F) Λ₀ .tc) α}
    {k : α → Prog (TpuEff nD τ sig (Elt F) Λ₀ .tc) β} {Q' : β → sProp 𝕄G} {Q : α → sProp 𝕄G}
    (h1 : P ⊢ wp frame (wpE (defs₀ (F := F)) 𝒱 (c : Thread nD τ) bd) E p Q)
    (h2 : ∀ a, Q a ⊢ wp frame (wpE (defs₀ (F := F)) 𝒱 (c : Thread nD τ) bd) E (k a) Q') :
    P ⊢ wp frame (wpE (defs₀ (F := F)) 𝒱 (c : Thread nD τ) bd) E (p >>= k) Q' := by
  rw [wp_bind]
  exact h1.trans (wp_mono _ _ _ h2)

theorem run_bind_eq {α β : Type} (c : Dev nD) {𝒱 : Variants} {bd : Option 𝒱.V} {E : Set ℕ} {P : sProp 𝕄G} {p : Prog (TpuEff nD τ sig (Elt F) Λ₀ .tc) α}
    {k : α → Prog (TpuEff nD τ sig (Elt F) Λ₀ .tc) β} {Q' : β → sProp 𝕄G} {r : α} {R : sProp 𝕄G}
    (h1 : P ⊢ wp frame (wpE (defs₀ (F := F)) 𝒱 (c : Thread nD τ) bd) E p (fun y => iprop(⌜y = r⌝ ∗ R)))
    (h2 : R ⊢ wp frame (wpE (defs₀ (F := F)) 𝒱 (c : Thread nD τ) bd) E (k r) Q') :
    P ⊢ wp frame (wpE (defs₀ (F := F)) 𝒱 (c : Thread nD τ) bd) E (p >>= k) Q' := by
  refine run_bind c h1 fun a => ?_
  iintro ⟨%h, HR⟩
  subst h
  iapply h2
  iexact HR

/-! ## Offsets -/

theorem off1_eq : ∀ (k : Fin k0_t1_loop.trips) (r : Fin 4), k0_off1 k (BitVec.ofNat 32 r.val) = tileOff (4 * k.val + r.val + 1) := by decide +kernel
theorem off2_eq : ∀ (k : Fin k0_t1_loop.trips) (r : Fin 4), k0_off2 k (BitVec.ofNat 32 r.val) = off7 (4 * k.val + r.val) 0 := by decide +kernel
theorem off3_eq : ∀ (k : Fin k0_t1_loop.trips) (r : Fin 4), k0_off3 k (BitVec.ofNat 32 r.val) = off9 (4 * k.val + r.val) 0 := by decide +kernel
theorem off4_eq : ∀ (k : Fin k0_t1_loop.trips) (r : Fin 4), k0_off4 k (BitVec.ofNat 32 r.val) = off7 (4 * k.val + r.val) 1 := by decide +kernel
theorem off5_eq : ∀ (k : Fin k0_t1_loop.trips) (r : Fin 4), k0_off5 k (BitVec.ofNat 32 r.val) = off9 (4 * k.val + r.val) 1 := by decide +kernel
theorem off6_eq : ∀ k : Fin k0_t1_loop.trips, k0_off6 k = off10 k.val := by decide +kernel

/-! ## The scratch's slots after a fetch -/

section
variable (arg11 : Memref sig .tc .vmem S2x256x256 .f32) (f11 : BufTy.Contents (Elt F) arg11.view.ty)

theorem slot_write_same (s : Fin 2) (o : Fin 3 → ℕ) (h : ∀ a, o a + S1x256x256.size a ≤ S2x256x256.size a) (ho : o = ![s.val, 0, 0])
    (T : Vec F S1x256x256 .f32) :
    slot (arg11.view.read (Elt F) (arg11.view.writes (Elt F) f11 [⟨Rect.unit (s := S2x256x256) o S1x256x256.size h, T⟩])) s = T := by
  funext y
  unfold slot
  rw [View.ld_apply]
  exact View.read_writes_cons_unit_of_mem arg11.view f11 h T [] _ y ho fun a => Rect.idx_unit_val ..

theorem slot_write_other (s s' : Fin 2) (hs : s ≠ s') (o : Fin 3 → ℕ) (h : ∀ a, o a + S1x256x256.size a ≤ S2x256x256.size a) (ho : o = ![s.val, 0, 0])
    (T : Vec F S1x256x256 .f32) :
    slot (arg11.view.read (Elt F) (arg11.view.writes (Elt F) f11 [⟨Rect.unit (s := S2x256x256) o S1x256x256.size h, T⟩])) s'
      = slot (arg11.view.read (Elt F) f11) s' := by
  funext y
  unfold slot
  rw [View.ld_apply, View.ld_apply]
  refine (View.read_writes_cons_unit_of_not_mem arg11.view f11 h T [] _ ho (0 : Fin 3) ?_).trans rfl
  have hy : (y (0 : Fin 3)).val < 1 := (y (0 : Fin 3)).isLt
  have : s.val ≠ s'.val := fun e => hs (Fin.ext e)
  rw [Rect.idx_unit_val]
  show s'.val + (y (0 : Fin 3)).val < s.val ∨ s.val + 1 ≤ s'.val + (y (0 : Fin 3)).val
  omega
end

/-! ## What the units leave -/

/-- A half's sums added to the sums carried. -/
abbrev Carry (F : FTy → Type) := FVec F S16x128 .f32 × FVec F S16x128 .f32 × FVec F S16x128 .f32 × FVec F S16x128 .f32

/-- The scales of four tiles. -/
def scales4 (v0 : Elt F .f32) (T : ℕ → Vec F S1x256x256 .f32) (k : ℕ) : FVec F S1x64x256 .fp8e4m3 :=
  fourTiles (halves (scaleOf v0 (half (T (4 * k + 0)) 0)) (scaleOf v0 (half (T (4 * k + 0)) 1)))
    (halves (scaleOf v0 (half (T (4 * k + 1)) 0)) (scaleOf v0 (half (T (4 * k + 1)) 1)))
    (halves (scaleOf v0 (half (T (4 * k + 2)) 0)) (scaleOf v0 (half (T (4 * k + 2)) 1)))
    (halves (scaleOf v0 (half (T (4 * k + 3)) 0)) (scaleOf v0 (half (T (4 * k + 3)) 1)))

/-- The carried sums after one more trip. -/
def nextSums (v0 : Elt F .f32) (T : ℕ → Vec F S1x256x256 .f32) (k : ℕ) (s : Carry F) : Carry F :=
  (addf (addf (addf (addf s.1 (sigOf (half (T (4 * k + 0)) 0))) (sigOf (half (T (4 * k + 1)) 0))) (sigOf (half (T (4 * k + 2)) 0))) (sigOf (half (T (4 * k + 3)) 0)),
   addf (addf (addf (addf s.2.1 (errOf v0 (half (T (4 * k + 0)) 0))) (errOf v0 (half (T (4 * k + 1)) 0))) (errOf v0 (half (T (4 * k + 2)) 0))) (errOf v0 (half (T (4 * k + 3)) 0)),
   addf (addf (addf (addf s.2.2.1 (sigOf (half (T (4 * k + 0)) 1))) (sigOf (half (T (4 * k + 1)) 1))) (sigOf (half (T (4 * k + 2)) 1))) (sigOf (half (T (4 * k + 3)) 1)),
   addf (addf (addf (addf s.2.2.2 (errOf v0 (half (T (4 * k + 0)) 1))) (errOf v0 (half (T (4 * k + 1)) 1))) (errOf v0 (half (T (4 * k + 2)) 1))) (errOf v0 (half (T (4 * k + 3)) 1)))

def sumsFrom (v0 : Elt F .f32) (T : ℕ → Vec F S1x256x256 .f32) (z : Carry F) : ℕ → Carry F
  | 0 => z
  | k + 1 => nextSums v0 T k (sumsFrom v0 T z k)

section
variable (arg7 : Memref sig .tc .vmem S1x1600x256 .f32) (arg9 : Memref sig .tc .vmem S256x12800 .i8) (arg10 : Memref sig .tc .vmem S1x1600x256 .fp8e4m3)

/-- A per-block result after `n` tiles: both halves of each tile in turn. -/
def blocks (g : ℕ → Fin 2 → FVec F S16x128 .f32) (f : BufTy.Contents (Elt F) arg7.view.ty) : ℕ → BufTy.Contents (Elt F) arg7.view.ty
  | 0 => f
  | n + 1 => arg7.view.writes (Elt F) (arg7.view.writes (Elt F) (blocks g f n) [piece7 n 0 (g n 0)]) [piece7 n 1 (g n 1)]

/-- The bytes after `n` tiles. -/
def codes (g : ℕ → Fin 2 → IVec S128x128 8) (f : BufTy.Contents (Elt F) arg9.view.ty) : ℕ → BufTy.Contents (Elt F) arg9.view.ty
  | 0 => f
  | n + 1 => arg9.view.writes (Elt F) (arg9.view.writes (Elt F) (codes g f n) [piece9 n 0 (g n 0)]) [piece9 n 1 (g n 1)]

/-- The scales after `n` trips. -/
def scales (g : ℕ → FVec F S1x64x256 .fp8e4m3) (f : BufTy.Contents (Elt F) arg10.view.ty) : ℕ → BufTy.Contents (Elt F) arg10.view.ty
  | 0 => f
  | n + 1 => arg10.view.writes (Elt F) (scales g f n) [piece10 n (g n)]
end

section
variable (c : Dev nD) (arg3 : Memref sig .tc .vmem S256x256 .bf16) (arg4 : Memref sig .tc .vmem S1x128 .i32)
  (arg5 : Memref sig .tc .vmem S256x25600 .bf16) (arg7 : Memref sig .tc .vmem S1x1600x256 .f32) (harg7 : arg7.IsWhole)
  (arg8 : Memref sig .tc .vmem S1x1600x256 .f32) (harg8 : arg8.IsWhole) (arg9 : Memref sig .tc .vmem S256x12800 .i8) (harg9 : arg9.IsWhole)
  (arg10 : Memref sig .tc .vmem S1x1600x256 .fp8e4m3) (harg10 : arg10.IsWhole) (arg11 : Memref sig .tc .vmem S2x256x256 .f32)
  (harg11 : arg11.IsWhole)
  (X3 : BufTy.Contents (Elt F) arg3.view.ty) (X4 : BufTy.Contents (Elt F) arg4.view.ty) (X5 : BufTy.Contents (Elt F) arg5.view.ty)
variable (𝒱 : Variants) (bd : Option 𝒱.V) (E : Set ℕ)

/-- A trip from a state that holds its first tile in the first slot. -/
theorem trip_core (v0 : Elt F .f32) (k : Fin k0_t1_loop.trips) (acc : Carry F)
    (x3 : Vec F S256x256 .bf16) (hx3 : x3 = arg3.view.read (Elt F) X3) (x4 : Vec F S1x128 .i32) (hx4 : x4 = arg4.view.read (Elt F) X4)
    (x5 : Vec F S256x25600 .bf16) (hx5 : x5 = arg5.view.read (Elt F) X5) (T : ℕ → Vec F S1x256x256 .f32) (hT : T = tile x5 x3)
    (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) (hslot : slot (arg11.view.read (Elt F) f11) 0 = T (4 * k.val)) :
    St c arg3 arg4 arg5 arg7 arg8 arg9 arg10 arg11 X3 X4 X5 f7 f8 f9 f10 f11
      ⊢ wp frame (wpE (defs₀ (F := F)) 𝒱 (c : Thread nD τ) bd) E (tripProg arg3 arg4 arg5 arg7 arg8 arg9 harg9 arg10 harg10 arg11 v0 k acc)
        (fun y => iprop(⌜y = nextSums v0 T k.val acc⌝ ∗ ∃ g11 : BufTy.Contents (Elt F) arg11.view.ty, ⌜slot (arg11.view.read (Elt F) g11) 0 = T (4 * k.val + 3 + 1)⌝ ∗
          St c arg3 arg4 arg5 arg7 arg8 arg9 arg10 arg11 X3 X4 X5 (arg7.view.writes (Elt F) (arg7.view.writes (Elt F) (arg7.view.writes (Elt F) (arg7.view.writes (Elt F) (arg7.view.writes (Elt F) (arg7.view.writes (Elt F) (arg7.view.writes (Elt F) (arg7.view.writes (Elt F) f7 [piece7 (4 * k.val + 0) 0 (sigOf (half (T (4 * k.val + 0)) 0))]) [piece7 (4 * k.val + 0) 1 (sigOf (half (T (4 * k.val + 0)) 1))]) [piece7 (4 * k.val + 1) 0 (sigOf (half (T (4 * k.val + 1)) 0))]) [piece7 (4 * k.val + 1) 1 (sigOf (half (T (4 * k.val + 1)) 1))]) [piece7 (4 * k.val + 2) 0 (sigOf (half (T (4 * k.val + 2)) 0))]) [piece7 (4 * k.val + 2) 1 (sigOf (half (T (4 * k.val + 2)) 1))]) [piece7 (4 * k.val + 3) 0 (sigOf (half (T (4 * k.val + 3)) 0))]) [piece7 (4 * k.val + 3) 1 (sigOf (half (T (4 * k.val + 3)) 1))]) (arg8.view.writes (Elt F) (arg8.view.writes (Elt F) (arg8.view.writes (Elt F) (arg8.view.writes (Elt F) (arg8.view.writes (Elt F) (arg8.view.writes (Elt F) (arg8.view.writes (Elt F) (arg8.view.writes (Elt F) f8 [piece7 (4 * k.val + 0) 0 (errOf v0 (half (T (4 * k.val + 0)) 0))]) [piece7 (4 * k.val + 0) 1 (errOf v0 (half (T (4 * k.val + 0)) 1))]) [piece7 (4 * k.val + 1) 0 (errOf v0 (half (T (4 * k.val + 1)) 0))]) [piece7 (4 * k.val + 1) 1 (errOf v0 (half (T (4 * k.val + 1)) 1))]) [piece7 (4 * k.val + 2) 0 (errOf v0 (half (T (4 * k.val + 2)) 0))]) [piece7 (4 * k.val + 2) 1 (errOf v0 (half (T (4 * k.val + 2)) 1))]) [piece7 (4 * k.val + 3) 0 (errOf v0 (half (T (4 * k.val + 3)) 0))]) [piece7 (4 * k.val + 3) 1 (errOf v0 (half (T (4 * k.val + 3)) 1))]) (arg9.view.writes (Elt F) (arg9.view.writes (Elt F) (arg9.view.writes (Elt F) (arg9.view.writes (Elt F) (arg9.view.writes (Elt F) (arg9.view.writes (Elt F) (arg9.view.writes (Elt F) (arg9.view.writes (Elt F) f9 [piece9 (4 * k.val + 0) 0 (bytesOf v0 (half (T (4 * k.val + 0)) 0) x4)]) [piece9 (4 * k.val + 0) 1 (bytesOf v0 (half (T (4 * k.val + 0)) 1) x4)]) [piece9 (4 * k.val + 1) 0 (bytesOf v0 (half (T (4 * k.val + 1)) 0) x4)]) [piece9 (4 * k.val + 1) 1 (bytesOf v0 (half (T (4 * k.val + 1)) 1) x4)]) [piece9 (4 * k.val + 2) 0 (bytesOf v0 (half (T (4 * k.val + 2)) 0) x4)]) [piece9 (4 * k.val + 2) 1 (bytesOf v0 (half (T (4 * k.val + 2)) 1) x4)]) [piece9 (4 * k.val + 3) 0 (bytesOf v0 (half (T (4 * k.val + 3)) 0) x4)]) [piece9 (4 * k.val + 3) 1 (bytesOf v0 (half (T (4 * k.val + 3)) 1) x4)]) (arg10.view.writes (Elt F) f10 [piece10 k.val (scales4 v0 T k.val)]) g11)) := by
  obtain ⟨sa, ea, sb, eb⟩ := acc
  unfold tripProg
  dsimp only
  refine run_bind c (fetch_run c arg3 arg4 arg5 arg7 arg8 arg9 arg10 arg11 X3 X4 X5 𝒱 bd E _ _ _ _ _ _ _ _ _ (4 * k.val + 0 + 1) (off1_eq k 0) x3 hx3 x5 hx5 _ (congrFun hT _)) fun _ => ?_
  have hs0 := slot_write_same arg11 f11 1 _ inb_S2x256x256_S1x256x256_1_0_0 rfl (T (4 * k.val + 0 + 1))
  have ho0 := slot_write_other arg11 f11 1 0 (by decide) _ inb_S2x256x256_S1x256x256_1_0_0 rfl (T (4 * k.val + 0 + 1))
  rw [hslot] at ho0
  refine run_bind_eq c (unit_run c arg3 arg4 arg5 arg7 arg8 arg9 harg9 arg10 arg11 X3 X4 X5 𝒱 bd E _ _ _ _ _ v0 _ _ _ _ _ _ _ 0 0 (4 * k.val + 0) rfl (off2_eq k 0) (off3_eq k 0) x4 hx4 (T (4 * k.val + 0)) ho0) ?_
  dsimp only
  refine run_bind_eq c (unit_run c arg3 arg4 arg5 arg7 arg8 arg9 harg9 arg10 arg11 X3 X4 X5 𝒱 bd E _ _ _ _ _ v0 _ _ _ _ _ _ _ 0 1 (4 * k.val + 0) rfl (off4_eq k 0) (off5_eq k 0) x4 hx4 (T (4 * k.val + 0)) ho0) ?_
  dsimp only
  refine run_bind c (fetch_run c arg3 arg4 arg5 arg7 arg8 arg9 arg10 arg11 X3 X4 X5 𝒱 bd E _ _ _ _ _ _ _ _ _ (4 * k.val + 1 + 1) (off1_eq k 1) x3 hx3 x5 hx5 _ (congrFun hT _)) fun _ => ?_
  have hs1 := slot_write_same arg11 (arg11.view.writes (Elt F) f11 [⟨Rect.unit (s := S2x256x256) ![1, 0, 0] S1x256x256.size inb_S2x256x256_S1x256x256_1_0_0, T (4 * k.val + 0 + 1)⟩]) 0 _ inb_S2x256x256_S1x256x256_0_0_0 rfl (T (4 * k.val + 1 + 1))
  have ho1 := slot_write_other arg11 (arg11.view.writes (Elt F) f11 [⟨Rect.unit (s := S2x256x256) ![1, 0, 0] S1x256x256.size inb_S2x256x256_S1x256x256_1_0_0, T (4 * k.val + 0 + 1)⟩]) 0 1 (by decide) _ inb_S2x256x256_S1x256x256_0_0_0 rfl (T (4 * k.val + 1 + 1))
  rw [hs0] at ho1
  refine run_bind_eq c (unit_run c arg3 arg4 arg5 arg7 arg8 arg9 harg9 arg10 arg11 X3 X4 X5 𝒱 bd E _ _ _ _ _ v0 _ _ _ _ _ _ _ 1 0 (4 * k.val + 1) rfl (off2_eq k 1) (off3_eq k 1) x4 hx4 (T (4 * k.val + 1)) ho1) ?_
  dsimp only
  refine run_bind_eq c (unit_run c arg3 arg4 arg5 arg7 arg8 arg9 harg9 arg10 arg11 X3 X4 X5 𝒱 bd E _ _ _ _ _ v0 _ _ _ _ _ _ _ 1 1 (4 * k.val + 1) rfl (off4_eq k 1) (off5_eq k 1) x4 hx4 (T (4 * k.val + 1)) ho1) ?_
  dsimp only
  refine run_bind c (fetch_run c arg3 arg4 arg5 arg7 arg8 arg9 arg10 arg11 X3 X4 X5 𝒱 bd E _ _ _ _ _ _ _ _ _ (4 * k.val + 2 + 1) (off1_eq k 2) x3 hx3 x5 hx5 _ (congrFun hT _)) fun _ => ?_
  have hs2 := slot_write_same arg11 (arg11.view.writes (Elt F) (arg11.view.writes (Elt F) f11 [⟨Rect.unit (s := S2x256x256) ![1, 0, 0] S1x256x256.size inb_S2x256x256_S1x256x256_1_0_0, T (4 * k.val + 0 + 1)⟩]) [⟨Rect.unit (s := S2x256x256) ![0, 0, 0] S1x256x256.size inb_S2x256x256_S1x256x256_0_0_0, T (4 * k.val + 1 + 1)⟩]) 1 _ inb_S2x256x256_S1x256x256_1_0_0 rfl (T (4 * k.val + 2 + 1))
  have ho2 := slot_write_other arg11 (arg11.view.writes (Elt F) (arg11.view.writes (Elt F) f11 [⟨Rect.unit (s := S2x256x256) ![1, 0, 0] S1x256x256.size inb_S2x256x256_S1x256x256_1_0_0, T (4 * k.val + 0 + 1)⟩]) [⟨Rect.unit (s := S2x256x256) ![0, 0, 0] S1x256x256.size inb_S2x256x256_S1x256x256_0_0_0, T (4 * k.val + 1 + 1)⟩]) 1 0 (by decide) _ inb_S2x256x256_S1x256x256_1_0_0 rfl (T (4 * k.val + 2 + 1))
  rw [hs1] at ho2
  refine run_bind_eq c (unit_run c arg3 arg4 arg5 arg7 arg8 arg9 harg9 arg10 arg11 X3 X4 X5 𝒱 bd E _ _ _ _ _ v0 _ _ _ _ _ _ _ 0 0 (4 * k.val + 2) rfl (off2_eq k 2) (off3_eq k 2) x4 hx4 (T (4 * k.val + 2)) ho2) ?_
  dsimp only
  refine run_bind_eq c (unit_run c arg3 arg4 arg5 arg7 arg8 arg9 harg9 arg10 arg11 X3 X4 X5 𝒱 bd E _ _ _ _ _ v0 _ _ _ _ _ _ _ 0 1 (4 * k.val + 2) rfl (off4_eq k 2) (off5_eq k 2) x4 hx4 (T (4 * k.val + 2)) ho2) ?_
  dsimp only
  refine run_bind c (fetch_run c arg3 arg4 arg5 arg7 arg8 arg9 arg10 arg11 X3 X4 X5 𝒱 bd E _ _ _ _ _ _ _ _ _ (4 * k.val + 3 + 1) (off1_eq k 3) x3 hx3 x5 hx5 _ (congrFun hT _)) fun _ => ?_
  have hs3 := slot_write_same arg11 (arg11.view.writes (Elt F) (arg11.view.writes (Elt F) (arg11.view.writes (Elt F) f11 [⟨Rect.unit (s := S2x256x256) ![1, 0, 0] S1x256x256.size inb_S2x256x256_S1x256x256_1_0_0, T (4 * k.val + 0 + 1)⟩]) [⟨Rect.unit (s := S2x256x256) ![0, 0, 0] S1x256x256.size inb_S2x256x256_S1x256x256_0_0_0, T (4 * k.val + 1 + 1)⟩]) [⟨Rect.unit (s := S2x256x256) ![1, 0, 0] S1x256x256.size inb_S2x256x256_S1x256x256_1_0_0, T (4 * k.val + 2 + 1)⟩]) 0 _ inb_S2x256x256_S1x256x256_0_0_0 rfl (T (4 * k.val + 3 + 1))
  have ho3 := slot_write_other arg11 (arg11.view.writes (Elt F) (arg11.view.writes (Elt F) (arg11.view.writes (Elt F) f11 [⟨Rect.unit (s := S2x256x256) ![1, 0, 0] S1x256x256.size inb_S2x256x256_S1x256x256_1_0_0, T (4 * k.val + 0 + 1)⟩]) [⟨Rect.unit (s := S2x256x256) ![0, 0, 0] S1x256x256.size inb_S2x256x256_S1x256x256_0_0_0, T (4 * k.val + 1 + 1)⟩]) [⟨Rect.unit (s := S2x256x256) ![1, 0, 0] S1x256x256.size inb_S2x256x256_S1x256x256_1_0_0, T (4 * k.val + 2 + 1)⟩]) 0 1 (by decide) _ inb_S2x256x256_S1x256x256_0_0_0 rfl (T (4 * k.val + 3 + 1))
  rw [hs2] at ho3
  refine run_bind_eq c (unit_run c arg3 arg4 arg5 arg7 arg8 arg9 harg9 arg10 arg11 X3 X4 X5 𝒱 bd E _ _ _ _ _ v0 _ _ _ _ _ _ _ 1 0 (4 * k.val + 3) rfl (off2_eq k 3) (off3_eq k 3) x4 hx4 (T (4 * k.val + 3)) ho3) ?_
  dsimp only
  refine run_bind_eq c (unit_run c arg3 arg4 arg5 arg7 arg8 arg9 harg9 arg10 arg11 X3 X4 X5 𝒱 bd E _ _ _ _ _ v0 _ _ _ _ _ _ _ 1 1 (4 * k.val + 3) rfl (off4_eq k 3) (off5_eq k 3) x4 hx4 (T (4 * k.val + 3)) ho3) ?_
  dsimp only
  have hp : ∀ (o : Fin 3 → ℕ) (ho : ∀ a, o a + S1x64x256.size a ≤ S1x1600x256.size a) (w : FVec F S1x64x256 .fp8e4m3), o = off10 k.val →
      (⟨Rect.unit (s := S1x1600x256) o S1x64x256.size ho, w⟩ : View.Piece (Elt F) S1x1600x256 .fp8e4m3) = piece10 k.val w := by
    intro o ho w h; subst h; rfl
  unfold scales4 nextSums
  rw [← hp (k0_off6 k) (k0_off6_inb k) _ (off6_eq k)]
  generalize hG : arg11.view.writes (Elt F) _ _ = g11 at hs3 ⊢
  clear hp hx3 hx4 hx5 hslot
  unfold St
  iintro ⟨HR_arg3, HR_arg4, HR_arg5, HW_arg7, HW_arg8, HW_arg9, HW_arg10, HR_arg11⟩
  sl_exec
  sl_step
  isplitr
  · ipureintro; rfl
  · iexists g11
    isplitr
    · ipureintro; exact hs3
    · sl_close

/-- The state after `k` trips. -/
def AtTrip (v0 : Elt F .f32) (x3 : Vec F S256x256 .bf16) (x4 : Vec F S1x128 .i32) (x5 : Vec F S256x25600 .bf16)
    (f7 : BufTy.Contents (Elt F) arg7.view.ty) (f8 : BufTy.Contents (Elt F) arg8.view.ty) (f9 : BufTy.Contents (Elt F) arg9.view.ty)
    (f10 : BufTy.Contents (Elt F) arg10.view.ty) (z : Carry F) (k : ℕ) (acc : Carry F) : sProp 𝕄G :=
  iprop(⌜acc = sumsFrom v0 (tile x5 x3) z k⌝ ∗ ∃ f11 : BufTy.Contents (Elt F) arg11.view.ty, ⌜slot (arg11.view.read (Elt F) f11) 0 = tile x5 x3 (4 * k)⌝ ∗
    St c arg3 arg4 arg5 arg7 arg8 arg9 arg10 arg11 X3 X4 X5 (blocks arg7 (fun t h => sigOf (half (tile x5 x3 t) h)) f7 (4 * k)) (blocks arg8 (fun t h => errOf v0 (half (tile x5 x3 t) h)) f8 (4 * k)) (codes arg9 (fun t h => bytesOf v0 (half (tile x5 x3 t) h) x4) f9 (4 * k)) (scales arg10 (scales4 v0 (tile x5 x3)) f10 k) f11)

theorem trip_run (v0 : Elt F .f32) (k : Fin k0_t1_loop.trips) (acc : Carry F)
    (x3 : Vec F S256x256 .bf16) (hx3 : x3 = arg3.view.read (Elt F) X3) (x4 : Vec F S1x128 .i32) (hx4 : x4 = arg4.view.read (Elt F) X4)
    (x5 : Vec F S256x25600 .bf16) (hx5 : x5 = arg5.view.read (Elt F) X5)
    (f7 : BufTy.Contents (Elt F) arg7.view.ty) (f8 : BufTy.Contents (Elt F) arg8.view.ty) (f9 : BufTy.Contents (Elt F) arg9.view.ty)
    (f10 : BufTy.Contents (Elt F) arg10.view.ty) (z : Carry F) :
    AtTrip c arg3 arg4 arg5 arg7 arg8 arg9 arg10 arg11 X3 X4 X5 v0 x3 x4 x5 f7 f8 f9 f10 z k.val acc
      ⊢ wp frame (wpE (defs₀ (F := F)) 𝒱 (c : Thread nD τ) bd) E (tripProg arg3 arg4 arg5 arg7 arg8 arg9 harg9 arg10 harg10 arg11 v0 k acc)
        (AtTrip c arg3 arg4 arg5 arg7 arg8 arg9 arg10 arg11 X3 X4 X5 v0 x3 x4 x5 f7 f8 f9 f10 z (k.val + 1)) := by
  have hk : ∀ r : Fin 4, 4 * k.val + r.val < 100 := by intro r; have := k.isLt; have h25 : k0_t1_loop.trips = 25 := by decide +kernel
                                                       omega
  unfold AtTrip
  iintro ⟨%hacc, %f11, %hslot, HS⟩
  obtain ⟨sa, ea, sb, eb⟩ := acc
  rw [show 4 * (k.val + 1) = 4 * k.val + 3 + 1 from by omega]
  simp only [blocks, codes, scales, sumsFrom]
  rw [← hacc]
  clear hacc
  generalize blocks arg7 (fun t h => sigOf (half (tile x5 x3 t) h)) f7 (4 * k.val) = b7
  generalize blocks arg8 (fun t h => errOf v0 (half (tile x5 x3 t) h)) f8 (4 * k.val) = b8
  generalize codes arg9 (fun t h => bytesOf v0 (half (tile x5 x3 t) h) x4) f9 (4 * k.val) = b9
  generalize scales arg10 (scales4 v0 (tile x5 x3)) f10 k.val = b10
  iapply (wp_wand_r frame (wpE (defs₀ (F := F)) 𝒱 (c : Thread nD τ) bd) E)
  isplitl [HS]
  · iapply (trip_core c arg3 arg4 arg5 arg7 arg8 arg9 harg9 arg10 harg10 arg11 X3 X4 X5 𝒱 bd E v0 k (sa, ea, sb, eb) x3 hx3 x4 hx4 x5 hx5 _ rfl b7 b8 b9 b10 f11 hslot)
    iexact HS
  · iintro %y ⟨%hy, HS⟩
    isplitr
    · ipureintro; exact hy
    · iexact HS
end

end Cert.KernelIdeal.Quant
-- ==== Proof.QuantBody.lean ====
/-
  THE KERNEL'S BODY: at one grid step the five results' buffers end with what the hundred tiles' units wrote and the two
  halves' ratios.
-/
module

public import proofs.«01_k».proof.Proof.QuantLoop
public import Idealize.ShloMosaic.Lib.Pipeline.Regions

@[expose] public section

set_option maxRecDepth 100000
set_option maxHeartbeats 4000000

noncomputable section

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

namespace Cert.KernelIdeal.Quant

open Cert.KernelIdeal Cert.KernelIdeal.Gen

variable {F : FTy → Type} [FloatOps F]

local notation "𝕄G" => MT nD τ sig Unit (Elt F) ℕ (UR sig nD τ) ℕ

/-- The two ratios' stores. -/
def ratioProg (arg6 : Memref sig .tc .vmem S1x1x256 .f32) (r : Σ' (a : FVec F S16x128 .f32) (b : FVec F S16x128 .f32), FVec F S1x128 .f32) : Prog (TpuEff nD τ sig (Elt F) Λ₀ .tc) PUnit := do
  let _w : Vec F S1x1x128 .f32 ← Prog.lift (.load arg6 (Rect.unit (s := S1x1x256) ![0, 0, 0] S1x1x128.size inb_S1x1x256_S1x1x128_0_0_0).toLoadRect (View.loadsAt_vmem h_S1x1x128))
  Prog.lift (.store arg6 (Rect.unit (s := S1x1x256) ![0, 0, 0] S1x1x128.size inb_S1x1x256_S1x1x128_0_0_0) (k0_pay1 r.2.2) Finset.univ (View.stores_vmem_bits_univ h_S1x1x128 rfl) (.inl rfl))
  let _w : Vec F S1x1x128 .f32 ← Prog.lift (.load arg6 (Rect.unit (s := S1x1x256) ![0, 0, 128] S1x1x128.size inb_S1x1x256_S1x1x128_0_0_128).toLoadRect (View.loadsAt_vmem h_S1x1x128))
  Prog.lift (.store arg6 (Rect.unit (s := S1x1x256) ![0, 0, 128] S1x1x128.size inb_S1x1x256_S1x1x128_0_0_128) (k0_pay2 r.1 r.2.1) Finset.univ (View.stores_vmem_bits_univ h_S1x1x128 rfl) (.inl rfl))
  pure ⟨⟩

/-- The scale read, the first tile fetched, and the loop. -/
def partProg (i : grid0.Coords) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole)
  (arg5 : Memref sig .tc .vmem S256x25600 .bf16) (harg5 : arg5.IsWhole) (arg6 : Memref sig .tc .vmem S1x1x256 .f32) (harg6 : arg6.IsWhole)
  (arg7 : Memref sig .tc .vmem S1x1600x256 .f32) (harg7 : arg7.IsWhole) (arg8 : Memref sig .tc .vmem S1x1600x256 .f32) (harg8 : arg8.IsWhole)
  (arg9 : Memref sig .tc .vmem S256x12800 .i8) (harg9 : arg9.IsWhole) (arg10 : Memref sig .tc .vmem S1x1600x256 .fp8e4m3) (harg10 : arg10.IsWhole)
  (arg11 : Memref sig .tc .vmem S2x256x256 .f32) (harg11 : arg11.IsWhole) : Prog (TpuEff nD τ sig (Elt F) Λ₀ .tc) (Σ' (a : FVec F S16x128 .f32) (b : FVec F S16x128 .f32), FVec F S1x128 .f32) := do
  let v0 : Elt F .f32 ← smemLoad arg2 (Rect.unit (s := S1x1) ![0, 0] S1x1.size inb_S1x1_S1x1_0_0) numel1_S1x1 rfl
  fetchProg arg3 arg5 arg11 ![0, 0] inb_S256x25600_S256x256_0_0 ![0, 0, 0] inb_S2x256x256_S1x256x256_0_0_0
  let s ← Scf.Loop.for k0_t1_loop k0_t1_ok (k0_pay1001 (F := F), k0_pay1001 (F := F), k0_pay1001 (F := F), k0_pay1001 (F := F))
    (k0_t1_body i arg2 harg2 arg3 harg3 arg4 harg4 arg5 harg5 arg6 harg6 arg7 harg7 arg8 harg8 arg9 harg9 arg10 harg10 arg11 harg11 v0)
  pure ⟨s.2.2.1, s.2.2.2, k0_pay1006 s.1 s.2.1⟩

/-- The body: the loop, then the ratios. -/
def bodyProg (i : grid0.Coords) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole)
  (arg5 : Memref sig .tc .vmem S256x25600 .bf16) (harg5 : arg5.IsWhole) (arg6 : Memref sig .tc .vmem S1x1x256 .f32) (harg6 : arg6.IsWhole)
  (arg7 : Memref sig .tc .vmem S1x1600x256 .f32) (harg7 : arg7.IsWhole) (arg8 : Memref sig .tc .vmem S1x1600x256 .f32) (harg8 : arg8.IsWhole)
  (arg9 : Memref sig .tc .vmem S256x12800 .i8) (harg9 : arg9.IsWhole) (arg10 : Memref sig .tc .vmem S1x1600x256 .fp8e4m3) (harg10 : arg10.IsWhole)
  (arg11 : Memref sig .tc .vmem S2x256x256 .f32) (harg11 : arg11.IsWhole) : Prog (TpuEff nD τ sig (Elt F) Λ₀ .tc) PUnit :=
  partProg i arg2 harg2 arg3 harg3 arg4 harg4 arg5 harg5 arg6 harg6 arg7 harg7 arg8 harg8 arg9 harg9 arg10 harg10 arg11 harg11 >>= ratioProg arg6

theorem skel_eq (i : grid0.Coords) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole)
  (arg5 : Memref sig .tc .vmem S256x25600 .bf16) (harg5 : arg5.IsWhole) (arg6 : Memref sig .tc .vmem S1x1x256 .f32) (harg6 : arg6.IsWhole)
  (arg7 : Memref sig .tc .vmem S1x1600x256 .f32) (harg7 : arg7.IsWhole) (arg8 : Memref sig .tc .vmem S1x1600x256 .f32) (harg8 : arg8.IsWhole)
  (arg9 : Memref sig .tc .vmem S256x12800 .i8) (harg9 : arg9.IsWhole) (arg10 : Memref sig .tc .vmem S1x1600x256 .fp8e4m3) (harg10 : arg10.IsWhole)
  (arg11 : Memref sig .tc .vmem S2x256x256 .f32) (harg11 : arg11.IsWhole) :
    cc0_nvfp4_quant (F := F) i arg2 harg2 arg3 harg3 arg4 harg4 arg5 harg5 arg6 harg6 arg7 harg7 arg8 harg8 arg9 harg9 arg10 harg10 arg11 harg11 = bodyProg (F := F) i arg2 harg2 arg3 harg3 arg4 harg4 arg5 harg5 arg6 harg6 arg7 harg7 arg8 harg8 arg9 harg9 arg10 harg10 arg11 harg11 := by
  chain_rfl

section
variable (c : Dev nD) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole)
  (arg5 : Memref sig .tc .vmem S256x25600 .bf16) (harg5 : arg5.IsWhole) (arg6 : Memref sig .tc .vmem S1x1x256 .f32) (harg6 : arg6.IsWhole)
  (arg7 : Memref sig .tc .vmem S1x1600x256 .f32) (harg7 : arg7.IsWhole) (arg8 : Memref sig .tc .vmem S1x1600x256 .f32) (harg8 : arg8.IsWhole)
  (arg9 : Memref sig .tc .vmem S256x12800 .i8) (harg9 : arg9.IsWhole) (arg10 : Memref sig .tc .vmem S1x1600x256 .fp8e4m3) (harg10 : arg10.IsWhole)
  (arg11 : Memref sig .tc .vmem S2x256x256 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty)
variable (𝒱 : Variants) (bd : Option 𝒱.V) (E : Set ℕ)

/-- The global scale as the body reads it. -/
def sgOf (x2 : Vec F S1x1 .f32) : Elt F .f32 := x2 (Shape.Idx.first (numel1_S1x1.symm ▸ Nat.one_pos))

/-- The sums a token block ends with. -/
def sumsAll (v0 : Elt F .f32) (T : ℕ → Vec F S1x256x256 .f32) : Carry F :=
  sumsFrom v0 T (k0_pay1001, k0_pay1001, k0_pay1001, k0_pay1001) 25

theorem smem_run : ((arg2.view.loc (c : Thread nD τ) ↦[arg2.view.set]{fullShare} X2) : sProp 𝕄G)
    ⊢ wp frame (wpE (defs₀ (F := F)) 𝒱 (c : Thread nD τ) bd) E (smemLoad arg2 (Rect.unit (s := S1x1) ![0, 0] S1x1.size inb_S1x1_S1x1_0_0) numel1_S1x1 rfl)
      (fun v => iprop(⌜v = sgOf (arg2.view.read (Elt F) X2)⌝ ∗ (arg2.view.loc (c : Thread nD τ) ↦[arg2.view.set]{fullShare} X2))) := by
  have hv : (arg2.access (Rect.unit (s := S1x1) ![0, 0] S1x1.size inb_S1x1_S1x1_0_0)).read (Elt F) X2
      (Shape.Idx.first (numel1_S1x1.symm ▸ Nat.one_pos)) = sgOf (arg2.view.read (Elt F) X2) := by
    unfold sgOf
    show arg2.view.read (Elt F) X2 _ = _
    congr 1
    funext a
    apply Fin.ext
    fin_cases a <;> rfl
  iintro HR_arg2
  sl_exec
  sl_step
  sl_close

theorem ratio_run (s : Carry F) (f6 : BufTy.Contents (Elt F) arg6.view.ty) : ((arg6.view.loc (c : Thread nD τ) ↦[arg6.view.set]{fullShare} f6) : sProp 𝕄G)
    ⊢ wp frame (wpE (defs₀ (F := F)) 𝒱 (c : Thread nD τ) bd) E (ratioProg arg6 ⟨s.2.2.1, s.2.2.2, k0_pay1006 s.1 s.2.1⟩)
      (fun _ => (arg6.view.loc (c : Thread nD τ) ↦[arg6.view.set]{fullShare} (arg6.view.writes (Elt F) f6 [⟨Rect.unit (s := S1x1x256) ![0, 0, 128] S1x1x128.size inb_S1x1x256_S1x1x128_0_0_128, k0_pay2 s.2.2.1 s.2.2.2⟩, ⟨Rect.unit (s := S1x1x256) ![0, 0, 0] S1x1x128.size inb_S1x1x256_S1x1x128_0_0_0, k0_pay1 (k0_pay1006 s.1 s.2.1)⟩]))) := by
  unfold ratioProg
  iintro HW_arg6
  sl_exec
  sl_step
  sl_close

theorem trips_eq : k0_t1_loop.trips = 25 := by decide +kernel

theorem body_run (i : grid0.Coords) (x3 : Vec F S256x256 .bf16) (hx3 : x3 = arg3.view.read (Elt F) X3) (x4 : Vec F S1x128 .i32) (hx4 : x4 = arg4.view.read (Elt F) X4)
    (x5 : Vec F S256x25600 .bf16) (hx5 : x5 = arg5.view.read (Elt F) X5) (v0 : Elt F .f32) (hv0 : v0 = sgOf (arg2.view.read (Elt F) X2))
    (f6 : BufTy.Contents (Elt F) arg6.view.ty)
    (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) (s : Carry F) (hs : s = sumsAll v0 (tile x5 x3)) :
    iprop(St c arg3 arg4 arg5 arg7 arg8 arg9 arg10 arg11 X3 X4 X5 f7 f8 f9 f10 f11 ∗ ((arg2.view.loc (c : Thread nD τ) ↦[arg2.view.set]{fullShare} X2) ∗ (arg6.view.loc (c : Thread nD τ) ↦[arg6.view.set]{fullShare} f6)))
      ⊢ wp frame (wpE (defs₀ (F := F)) 𝒱 (c : Thread nD τ) bd) E (bodyProg i arg2 harg2 arg3 harg3 arg4 harg4 arg5 harg5 arg6 harg6 arg7 harg7 arg8 harg8 arg9 harg9 arg10 harg10 arg11 harg11)
        (fun _ => iprop(∃ f11 : BufTy.Contents (Elt F) arg11.view.ty,
          St c arg3 arg4 arg5 arg7 arg8 arg9 arg10 arg11 X3 X4 X5 (blocks arg7 (fun t h => sigOf (half (tile x5 x3 t) h)) f7 100) (blocks arg8 (fun t h => errOf v0 (half (tile x5 x3 t) h)) f8 100) (codes arg9 (fun t h => bytesOf v0 (half (tile x5 x3 t) h) x4) f9 100) (scales arg10 (scales4 v0 (tile x5 x3)) f10 25) f11
          ∗ ((arg2.view.loc (c : Thread nD τ) ↦[arg2.view.set]{fullShare} X2) ∗ (arg6.view.loc (c : Thread nD τ) ↦[arg6.view.set]{fullShare} (arg6.view.writes (Elt F) f6 [⟨Rect.unit (s := S1x1x256) ![0, 0, 128] S1x1x128.size inb_S1x1x256_S1x1x128_0_0_128, k0_pay2 s.2.2.1 s.2.2.2⟩, ⟨Rect.unit (s := S1x1x256) ![0, 0, 0] S1x1x128.size inb_S1x1x256_S1x1x128_0_0_0, k0_pay1 (k0_pay1006 s.1 s.2.1)⟩]))))) := by
  unfold bodyProg
  rw [wp_bind]
  unfold partProg
  rw [wp_bind]
  iintro ⟨HS, H2, H6⟩
  iapply (wp_wand_r frame (wpE (defs₀ (F := F)) 𝒱 (c : Thread nD τ) bd) E)
  isplitl [H2]
  · iapply (smem_run c arg2 X2 𝒱 bd E); iexact H2
  iintro %v ⟨%hv, H2⟩
  rw [← hv0] at hv
  subst hv
  rw [wp_bind]
  iapply (wp_wand_r frame (wpE (defs₀ (F := F)) 𝒱 (c : Thread nD τ) bd) E)
  isplitl [HS]
  · iapply (fetch_run c arg3 arg4 arg5 arg7 arg8 arg9 arg10 arg11 X3 X4 X5 𝒱 bd E _ _ _ _ _ _ _ _ _ 0 (by decide) x3 hx3 x5 hx5 _ rfl); iexact HS
  iintro %_ HS
  have hslot := slot_write_same arg11 f11 0 _ inb_S2x256x256_S1x256x256_0_0_0 rfl (tile x5 x3 0)
  rw [body_eq, wp_bind]
  iapply (wp_wand_r frame (wpE (defs₀ (F := F)) 𝒱 (c : Thread nD τ) bd) E (Q := AtTrip c arg3 arg4 arg5 arg7 arg8 arg9 arg10 arg11 X3 X4 X5 v x3 x4 x5 f7 f8 f9 f10 (k0_pay1001, k0_pay1001, k0_pay1001, k0_pay1001) 25))
  isplitl [HS]
  · have ht : Scf.trips k0_t1_loop.lb k0_t1_loop.ub k0_t1_loop.st = 25 := trips_eq
    iapply (Scf.wp_for frame (wpE (defs₀ (F := F)) 𝒱 (c : Thread nD τ) bd) E _ _ _ _ _ _
      (AtTrip c arg3 arg4 arg5 arg7 arg8 arg9 arg10 arg11 X3 X4 X5 v x3 x4 x5 f7 f8 f9 f10 (k0_pay1001, k0_pay1001, k0_pay1001, k0_pay1001))
      (fun k acc => trip_run c arg3 arg4 arg5 arg7 arg8 arg9 harg9 arg10 harg10 arg11 X3 X4 X5 𝒱 bd E v k acc x3 hx3 x4 hx4 x5 hx5 f7 f8 f9 f10 _))
    isplitl [HS]
    · unfold AtTrip
      isplitr
      · ipureintro; rfl
      · iexists _
        isplitr
        · ipureintro; exact hslot
        · iexact HS
    · iintro %acc HS
      rw [ht]
      iexact HS
  iintro %acc HS
  rw [Prog.pure_eq_ret, wp_ret]
  imodintro
  unfold AtTrip
  icases HS with ⟨%hacc, %g11, %_, HS⟩
  have hacc' : acc = s := by rw [hacc, hs]; rfl
  subst hacc'
  iapply (wp_wand_r frame (wpE (defs₀ (F := F)) 𝒱 (c : Thread nD τ) bd) E)
  isplitl [H6]
  · iapply (ratio_run c arg6 𝒱 bd E acc f6); iexact H6
  iintro %_ H6
  iexists g11
  isplitl [HS]
  · iexact HS
  · isplitl [H2]
    · iexact H2
    · iexact H6
end

end Cert.KernelIdeal.Quant
-- ==== Proof.QuantResult.lean ====
/-
  WHAT THE RESULTS' BUFFERS HOLD after all the tiles, as functions of the index alone: every element is written by exactly
  one unit, so nothing of what the buffers held before is left.
-/
module

public import proofs.«01_k».proof.Proof.QuantBody
public import Idealize.ShloMosaic.Lib.Pointwise

@[expose] public section

set_option maxRecDepth 16384
set_option maxHeartbeats 1000000

noncomputable section

open Idealize.ShloMosaic Idealize.ShloMosaic.TcCoe

namespace Cert.KernelIdeal.Quant

open Cert.KernelIdeal Cert.KernelIdeal.Gen

variable {F : FTy → Type} [FloatOps F]

/-- The sums of every block, from what each tile's half gives. -/
def allBlocks (g : ℕ → Fin 2 → FVec F S16x128 .f32) : Vec F S1x1600x256 .f32 := fun y =>
  back (g ((y (1 : Fin 3)).val / 16) ⟨(y (2 : Fin 3)).val / 128, Nat.div_lt_of_lt_mul (y (2 : Fin 3)).isLt⟩)
    (ix3 (0 : Fin 1) (⟨(y (1 : Fin 3)).val % 16, Nat.mod_lt _ (by decide)⟩ : Fin 16) (⟨(y (2 : Fin 3)).val % 128, Nat.mod_lt _ (by decide)⟩ : Fin 128))

/-- The bytes of every block. -/
def allCodes (g : ℕ → Fin 2 → IVec S128x128 8) : Vec F S256x12800 .i8 := fun y =>
  g ((y (1 : Fin 2)).val / 128) ⟨(y (0 : Fin 2)).val / 128, Nat.div_lt_of_lt_mul (y (0 : Fin 2)).isLt⟩
    (ix2 (⟨(y (0 : Fin 2)).val % 128, Nat.mod_lt _ (by decide)⟩ : Fin 128) (⟨(y (1 : Fin 2)).val % 128, Nat.mod_lt _ (by decide)⟩ : Fin 128))

/-- The scales of every block. -/
def allScales (g : ℕ → FVec F S1x64x256 .fp8e4m3) : Vec F S1x1600x256 .fp8e4m3 := fun y =>
  g ((y (1 : Fin 3)).val / 64) (ix3 (0 : Fin 1) (⟨(y (1 : Fin 3)).val % 64, Nat.mod_lt _ (by decide)⟩ : Fin 64) (y (2 : Fin 3) : Fin 256))

/-- The tokens' ratios, from the two halves'. -/
def allRatios (s : Carry F) : Vec F S1x1x256 .f32 := fun y =>
  if (y (2 : Fin 3)).val < 128 then
    k0_pay1 (k0_pay1006 s.1 s.2.1) (ix3 (0 : Fin 1) (0 : Fin 1) (⟨(y (2 : Fin 3)).val % 128, Nat.mod_lt _ (by decide)⟩ : Fin 128))
  else k0_pay2 s.2.2.1 s.2.2.2 (ix3 (0 : Fin 1) (0 : Fin 1) (⟨(y (2 : Fin 3)).val % 128, Nat.mod_lt _ (by decide)⟩ : Fin 128))

theorem off7_eq (n : ℕ) (hn : n < 100) (h : Fin 2) : off7 n h = ![0, 16 * n, 128 * h.val] := by
  unfold off7; rw [Nat.min_eq_left (by omega)]
theorem off9_eq (n : ℕ) (hn : n < 100) (h : Fin 2) : off9 n h = ![128 * h.val, 128 * n] := by
  unfold off9; rw [Nat.min_eq_left (by omega)]
theorem off10_eq (n : ℕ) (hn : n < 25) : off10 n = ![0, 64 * n, 0] := by
  unfold off10; rw [Nat.min_eq_left (by omega)]

/-- After `n` tiles the blocks of those tiles hold their sums. -/
theorem read_blocks (arg7 : Memref sig .tc .vmem S1x1600x256 .f32) (g : ℕ → Fin 2 → FVec F S16x128 .f32) (f : BufTy.Contents (Elt F) arg7.view.ty) :
    ∀ n, n ≤ 100 → ∀ y : S1x1600x256.Idx, (y (1 : Fin 3)).val < 16 * n → arg7.view.read (Elt F) (blocks arg7 g f n) y = allBlocks g y
  | 0, _, y, hy => absurd hy (by omega)
  | n + 1, hn, y, hy => by
    have h0 : (y (0 : Fin 3)).val = 0 := Nat.lt_one_iff.mp (y (0 : Fin 3)).isLt
    have h2 : (y (2 : Fin 3)).val < 256 := (y (2 : Fin 3)).isLt
    unfold blocks piece7
    by_cases hin : 16 * n ≤ (y (1 : Fin 3)).val
    · have hd : (y (1 : Fin 3)).val / 16 = n := by omega
      by_cases hh : 128 ≤ (y (2 : Fin 3)).val
      · have hd2 : (⟨(y (2 : Fin 3)).val / 128, Nat.div_lt_of_lt_mul (y (2 : Fin 3)).isLt⟩ : Fin 2) = 1 := Fin.ext (by show _ / 128 = 1; omega)
        rw [View.read_writes_cons_unit_of_mem (size := S1x16x128.size) arg7.view _ _ _ _ y (ix3 (0 : Fin 1) (⟨(y (1 : Fin 3)).val % 16, Nat.mod_lt _ (by decide)⟩ : Fin 16) (⟨(y (2 : Fin 3)).val % 128, Nat.mod_lt _ (by decide)⟩ : Fin 128)) (off7_eq n (by omega) 1)
          (by intro a; fin_cases a
              · show (y (0 : Fin 3)).val = 0 + 0; omega
              · show (y (1 : Fin 3)).val = 16 * n + (y (1 : Fin 3)).val % 16; omega
              · show (y (2 : Fin 3)).val = 128 * 1 + (y (2 : Fin 3)).val % 128; omega)]
        unfold allBlocks; rw [hd, hd2]
      · have hd2 : (⟨(y (2 : Fin 3)).val / 128, Nat.div_lt_of_lt_mul (y (2 : Fin 3)).isLt⟩ : Fin 2) = 0 := Fin.ext (by show _ / 128 = 0; omega)
        rw [View.read_writes_cons_unit_of_not_mem arg7.view _ _ _ _ y (off7_eq n (by omega) 1) (2 : Fin 3) (by left; show _ < 128 * 1; omega)]
        rw [View.writes_nil, View.read_writes_cons_unit_of_mem (size := S1x16x128.size) arg7.view _ _ _ _ y (ix3 (0 : Fin 1) (⟨(y (1 : Fin 3)).val % 16, Nat.mod_lt _ (by decide)⟩ : Fin 16) (⟨(y (2 : Fin 3)).val % 128, Nat.mod_lt _ (by decide)⟩ : Fin 128)) (off7_eq n (by omega) 0)
          (by intro a; fin_cases a
              · show (y (0 : Fin 3)).val = 0 + 0; omega
              · show (y (1 : Fin 3)).val = 16 * n + (y (1 : Fin 3)).val % 16; omega
              · show (y (2 : Fin 3)).val = 128 * 0 + (y (2 : Fin 3)).val % 128; omega)]
        unfold allBlocks; rw [hd, hd2]
    · rw [View.read_writes_cons_unit_of_not_mem arg7.view _ _ _ _ y (off7_eq n (by omega) 1) (1 : Fin 3) (by left; show _ < 16 * n; omega),
        View.writes_nil, View.read_writes_cons_unit_of_not_mem arg7.view _ _ _ _ y (off7_eq n (by omega) 0) (1 : Fin 3) (by left; show _ < 16 * n; omega), View.writes_nil]
      exact read_blocks arg7 g f n (by omega) y (by omega)

theorem read_blocks_all (arg7 : Memref sig .tc .vmem S1x1600x256 .f32) (g : ℕ → Fin 2 → FVec F S16x128 .f32) (f : BufTy.Contents (Elt F) arg7.view.ty) :
    arg7.view.read (Elt F) (blocks arg7 g f 100) = allBlocks g :=
  funext fun y => read_blocks arg7 g f 100 le_rfl y (y (1 : Fin 3)).isLt

/-- After `n` tiles the columns of those tiles hold their bytes. -/
theorem read_codes (arg9 : Memref sig .tc .vmem S256x12800 .i8) (g : ℕ → Fin 2 → IVec S128x128 8) (f : BufTy.Contents (Elt F) arg9.view.ty) :
    ∀ n, n ≤ 100 → ∀ y : S256x12800.Idx, (y (1 : Fin 2)).val < 128 * n → arg9.view.read (Elt F) (codes arg9 g f n) y = allCodes (F := F) g y
  | 0, _, y, hy => absurd hy (by omega)
  | n + 1, hn, y, hy => by
    have h2 : (y (0 : Fin 2)).val < 256 := (y (0 : Fin 2)).isLt
    unfold codes piece9
    by_cases hin : 128 * n ≤ (y (1 : Fin 2)).val
    · have hd : (y (1 : Fin 2)).val / 128 = n := by omega
      by_cases hh : 128 ≤ (y (0 : Fin 2)).val
      · have hd2 : (⟨(y (0 : Fin 2)).val / 128, Nat.div_lt_of_lt_mul (y (0 : Fin 2)).isLt⟩ : Fin 2) = 1 := Fin.ext (by show _ / 128 = 1; omega)
        rw [View.read_writes_cons_unit_of_mem (size := S128x128.size) arg9.view _ _ _ _ y (ix2 (⟨(y (0 : Fin 2)).val % 128, Nat.mod_lt _ (by decide)⟩ : Fin 128) (⟨(y (1 : Fin 2)).val % 128, Nat.mod_lt _ (by decide)⟩ : Fin 128)) (off9_eq n (by omega) 1)
          (by intro a; fin_cases a
              · show (y (0 : Fin 2)).val = 128 * 1 + (y (0 : Fin 2)).val % 128; omega
              · show (y (1 : Fin 2)).val = 128 * n + (y (1 : Fin 2)).val % 128; omega)]
        unfold allCodes; rw [hd, hd2]
      · have hd2 : (⟨(y (0 : Fin 2)).val / 128, Nat.div_lt_of_lt_mul (y (0 : Fin 2)).isLt⟩ : Fin 2) = 0 := Fin.ext (by show _ / 128 = 0; omega)
        rw [View.read_writes_cons_unit_of_not_mem arg9.view _ _ _ _ y (off9_eq n (by omega) 1) (0 : Fin 2) (by left; show _ < 128 * 1; omega)]
        rw [View.writes_nil, View.read_writes_cons_unit_of_mem (size := S128x128.size) arg9.view _ _ _ _ y (ix2 (⟨(y (0 : Fin 2)).val % 128, Nat.mod_lt _ (by decide)⟩ : Fin 128) (⟨(y (1 : Fin 2)).val % 128, Nat.mod_lt _ (by decide)⟩ : Fin 128)) (off9_eq n (by omega) 0)
          (by intro a; fin_cases a
              · show (y (0 : Fin 2)).val = 128 * 0 + (y (0 : Fin 2)).val % 128; omega
              · show (y (1 : Fin 2)).val = 128 * n + (y (1 : Fin 2)).val % 128; omega)]
        unfold allCodes; rw [hd, hd2]
    · rw [View.read_writes_cons_unit_of_not_mem arg9.view _ _ _ _ y (off9_eq n (by omega) 1) (1 : Fin 2) (by left; show _ < 128 * n; omega),
        View.writes_nil, View.read_writes_cons_unit_of_not_mem arg9.view _ _ _ _ y (off9_eq n (by omega) 0) (1 : Fin 2) (by left; show _ < 128 * n; omega), View.writes_nil]
      exact read_codes arg9 g f n (by omega) y (by omega)

theorem read_codes_all (arg9 : Memref sig .tc .vmem S256x12800 .i8) (g : ℕ → Fin 2 → IVec S128x128 8) (f : BufTy.Contents (Elt F) arg9.view.ty) :
    arg9.view.read (Elt F) (codes arg9 g f 100) = allCodes (F := F) g :=
  funext fun y => read_codes arg9 g f 100 le_rfl y (y (1 : Fin 2)).isLt

/-- After `n` trips the blocks of their tiles hold their scales. -/
theorem read_scales (arg10 : Memref sig .tc .vmem S1x1600x256 .fp8e4m3) (g : ℕ → FVec F S1x64x256 .fp8e4m3) (f : BufTy.Contents (Elt F) arg10.view.ty) :
    ∀ n, n ≤ 25 → ∀ y : S1x1600x256.Idx, (y (1 : Fin 3)).val < 64 * n → arg10.view.read (Elt F) (scales arg10 g f n) y = allScales g y
  | 0, _, y, hy => absurd hy (by omega)
  | n + 1, hn, y, hy => by
    have h0 : (y (0 : Fin 3)).val = 0 := Nat.lt_one_iff.mp (y (0 : Fin 3)).isLt
    unfold scales piece10
    by_cases hin : 64 * n ≤ (y (1 : Fin 3)).val
    · have hd : (y (1 : Fin 3)).val / 64 = n := by omega
      rw [View.read_writes_cons_unit_of_mem (size := S1x64x256.size) arg10.view _ _ _ _ y (ix3 (0 : Fin 1) (⟨(y (1 : Fin 3)).val % 64, Nat.mod_lt _ (by decide)⟩ : Fin 64) (y (2 : Fin 3) : Fin 256)) (off10_eq n (by omega))
          (by intro a; fin_cases a
              · show (y (0 : Fin 3)).val = 0 + 0; omega
              · show (y (1 : Fin 3)).val = 64 * n + (y (1 : Fin 3)).val % 64; omega
              · show (y (2 : Fin 3)).val = 0 + (y (2 : Fin 3)).val; omega)]
      unfold allScales; rw [hd]
    · rw [View.read_writes_cons_unit_of_not_mem arg10.view _ _ _ _ y (off10_eq n (by omega)) (1 : Fin 3) (by left; show _ < 64 * n; omega), View.writes_nil]
      exact read_scales arg10 g f n (by omega) y (by omega)

theorem read_scales_all (arg10 : Memref sig .tc .vmem S1x1600x256 .fp8e4m3) (g : ℕ → FVec F S1x64x256 .fp8e4m3) (f : BufTy.Contents (Elt F) arg10.view.ty) :
    arg10.view.read (Elt F) (scales arg10 g f 25) = allScales g :=
  funext fun y => read_scales arg10 g f 25 le_rfl y (y (1 : Fin 3)).isLt

/-- The two stores of ratios fill the buffer. -/
theorem read_ratios (arg6 : Memref sig .tc .vmem S1x1x256 .f32) (s : Carry F) (f6 : BufTy.Contents (Elt F) arg6.view.ty) :
    arg6.view.read (Elt F) (arg6.view.writes (Elt F) f6 [⟨Rect.unit (s := S1x1x256) ![0, 0, 128] S1x1x128.size inb_S1x1x256_S1x1x128_0_0_128, k0_pay2 s.2.2.1 s.2.2.2⟩, ⟨Rect.unit (s := S1x1x256) ![0, 0, 0] S1x1x128.size inb_S1x1x256_S1x1x128_0_0_0, k0_pay1 (k0_pay1006 s.1 s.2.1)⟩])
      = allRatios s := by
  funext y
  have h0 : (y (0 : Fin 3)).val = 0 := Nat.lt_one_iff.mp (y (0 : Fin 3)).isLt
  have h1 : (y (1 : Fin 3)).val = 0 := Nat.lt_one_iff.mp (y (1 : Fin 3)).isLt
  have h2 : (y (2 : Fin 3)).val < 256 := (y (2 : Fin 3)).isLt
  unfold allRatios
  by_cases hh : (y (2 : Fin 3)).val < 128
  · rw [if_pos hh, View.read_writes_cons_unit_of_not_mem arg6.view _ _ _ _ y rfl (2 : Fin 3) (by left; exact hh),
      View.read_writes_cons_unit_of_mem (size := S1x1x128.size) arg6.view _ _ _ _ y (ix3 (0 : Fin 1) (0 : Fin 1) (⟨(y (2 : Fin 3)).val % 128, Nat.mod_lt _ (by decide)⟩ : Fin 128)) rfl
          (by intro a; fin_cases a
              · show (y (0 : Fin 3)).val = 0 + 0; omega
              · show (y (1 : Fin 3)).val = 0 + 0; omega
              · show (y (2 : Fin 3)).val = 0 + (y (2 : Fin 3)).val % 128; omega)]
  · rw [if_neg hh, View.read_writes_cons_unit_of_mem (size := S1x1x128.size) arg6.view _ _ _ _ y (ix3 (0 : Fin 1) (0 : Fin 1) (⟨(y (2 : Fin 3)).val % 128, Nat.mod_lt _ (by decide)⟩ : Fin 128)) rfl
          (by intro a; fin_cases a
              · show (y (0 : Fin 3)).val = 0 + 0; omega
              · show (y (1 : Fin 3)).val = 0 + 0; omega
              · show (y (2 : Fin 3)).val = 128 + (y (2 : Fin 3)).val % 128; omega)]

end Cert.KernelIdeal.Quant

end
-- ==== Proof.QuantFrame.lean ====
/-
  THE RUN of the quantising call: the proof data of its one pipeline (what every window's buffer holds after the body), the
  body's obligation at every grid point, and the frame: every execution ends, the arguments unchanged.
-/
module

public import proofs.«01_k».proof.Proof.QuantResult
public import proofs.«01_k».proof.Proof.Gen.KernelIdeal.Frame
public import Idealize.ShloMosaic.Lib.Pipeline.FrameBody
public import Idealize.ShloMosaic.Lib.Claim
public import Idealize.ShloMosaic.Lib.Ring
public import Idealize.ShloMosaic.Lib.UnfoldOut
public import Idealize.ShloMosaic.Lib.WordCmp
public import Idealize.ShloMosaic.Lib.Pipeline.Value

@[expose] public section

set_option maxRecDepth 16384
set_option maxHeartbeats 1000000

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The results of one grid point -/

/-- The ratios of a point's tokens, from the scale `x2`, the permutation `x3`, the lanes `x4` and the tokens `x5`. -/
def outRatio (x2 : Vec F S1x1 .f32) (x3 : Vec F S256x256 .bf16) (x5 : Vec F S256x25600 .bf16) : Vec F S1x1x256 .f32 :=
  allRatios (sumsAll (sgOf x2) (tile x5 x3))
def outSignal (x3 : Vec F S256x256 .bf16) (x5 : Vec F S256x25600 .bf16) : Vec F S1x1600x256 .f32 :=
  allBlocks (fun t h => sigOf (half (tile x5 x3 t) h))
def outError (x2 : Vec F S1x1 .f32) (x3 : Vec F S256x256 .bf16) (x5 : Vec F S256x25600 .bf16) : Vec F S1x1600x256 .f32 :=
  allBlocks (fun t h => errOf (sgOf x2) (half (tile x5 x3 t) h))
def outCodes (x2 : Vec F S1x1 .f32) (x3 : Vec F S256x256 .bf16) (x4 : Vec F S1x128 .i32) (x5 : Vec F S256x25600 .bf16) : Vec F S256x12800 .i8 :=
  allCodes (F := F) (fun t h => bytesOf (sgOf x2) (half (tile x5 x3 t) h) x4)
def outScales (x2 : Vec F S1x1 .f32) (x3 : Vec F S256x256 .bf16) (x5 : Vec F S256x25600 .bf16) : Vec F S1x1600x256 .fp8e4m3 :=
  allScales (scales4 (sgOf x2) (tile x5 x3))

variable (m : (ℓ : Loc nD τ sig) → Buf (Elt F) ℓ) (ρ : Dev nD → PrngReg)

/-- The proof data: the inputs' buffers keep their blocks, the outputs' hold the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outRatio (iblk m c 0 t) (iblk m c 1 t) (iblk m c 3 t)
    | ⟨5, _⟩ => outSignal (iblk m c 1 t) (iblk m c 3 t)
    | ⟨6, _⟩ => outError (iblk m c 0 t) (iblk m c 1 t) (iblk m c 3 t)
    | ⟨7, _⟩ => outCodes (iblk m c 0 t) (iblk m c 1 t) (iblk m c 2 t) (iblk m c 3 t)
    | ⟨8, _⟩ => outScales (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outRatio (iblk m c 0 t) (iblk m c 1 t) (iblk m c 3 t) := by dsimp only [dats]
theorem after0_5 (c : Dev nD) (t : Fin cfg0.N) : (dats m 0 c).after 5 t = outSignal (iblk m c 1 t) (iblk m c 3 t) := by dsimp only [dats]
theorem after0_6 (c : Dev nD) (t : Fin cfg0.N) : (dats m 0 c).after 6 t = outError (iblk m c 0 t) (iblk m c 1 t) (iblk m c 3 t) := by dsimp only [dats]
theorem after0_7 (c : Dev nD) (t : Fin cfg0.N) : (dats m 0 c).after 7 t = outCodes (iblk m c 0 t) (iblk m c 1 t) (iblk m c 2 t) (iblk m c 3 t) := by dsimp only [dats]
theorem after0_8 (c : Dev nD) (t : Fin cfg0.N) : (dats m 0 c).after 8 t = outScales (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's triple, over staging memrefs at known contents -/

/-- The body on whole memrefs, the inputs' at known contents and the outputs' and the scratch at anything, leaves the
    outputs' at the point's results. -/
theorem body_sound (c : Dev nD) (E : Set ℕ) (i : grid0.Coords) (arg2 : Memref sig .tc .smem S1x1 .f32) (harg2 : arg2.IsWhole) (arg3 : Memref sig .tc .vmem S256x256 .bf16) (harg3 : arg3.IsWhole) (arg4 : Memref sig .tc .vmem S1x128 .i32) (harg4 : arg4.IsWhole)
    (arg5 : Memref sig .tc .vmem S256x25600 .bf16) (harg5 : arg5.IsWhole) (arg6 : Memref sig .tc .vmem S1x1x256 .f32) (harg6 : arg6.IsWhole)
    (arg7 : Memref sig .tc .vmem S1x1600x256 .f32) (harg7 : arg7.IsWhole) (arg8 : Memref sig .tc .vmem S1x1600x256 .f32) (harg8 : arg8.IsWhole)
    (arg9 : Memref sig .tc .vmem S256x12800 .i8) (harg9 : arg9.IsWhole) (arg10 : Memref sig .tc .vmem S1x1600x256 .fp8e4m3) (harg10 : arg10.IsWhole)
    (arg11 : Memref sig .tc .vmem S2x256x256 .f32) (harg11 : arg11.IsWhole)
    (x2 : Vec F S1x1 .f32) (x3 : Vec F S256x256 .bf16) (x4 : Vec F S1x128 .i32) (x5 : Vec F S256x25600 .bf16) :
    (iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)) : sProp 𝕄)
      ⊢ wp frame (wpE (defs₀ (F := F)) Variants.none c none) E
          (cc0_nvfp4_quant i arg2 harg2 arg3 harg3 arg4 harg4 arg5 harg5 arg6 harg6 arg7 harg7 arg8 harg8 arg9 harg9 arg10 harg10 arg11 harg11)
          (fun _ => (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outRatio x2 x3 x5) ∗ owns (c : Thread nD τ) arg7 fullShare (outSignal x3 x5) ∗ owns (c : Thread nD τ) arg8 fullShare (outError x2 x3 x5)
            ∗ owns (c : Thread nD τ) arg9 fullShare (outCodes x2 x3 x4 x5) ∗ owns (c : Thread nD τ) arg10 fullShare (outScales x2 x3 x5) ∗ (∃ d, owns (c : Thread nD τ) arg11 fullShare d)) : sProp 𝕄)) := by
  unfold owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩
  rw [skel_eq]
  iapply (wp_wand_r frame (wpE (defs₀ (F := F)) Variants.none (c : Thread nD τ) none) E)
  isplitl [H2 H3 H4 H5 H6 H7 H8 H9 H10 H11]
  · have hb := body_run c arg2 harg2 arg3 harg3 arg4 harg4 arg5 harg5 arg6 harg6 arg7 harg7 arg8 harg8 arg9 harg9 arg10 harg10 arg11 harg11 f2 f3 f4 f5 Variants.none none E i x3 h3.symm x4 h4.symm x5 h5.symm
      (sgOf x2) (by rw [h2]) f6 f7 f8 f9 f10 f11 _ rfl
    iapply hb
    unfold St
    isplitl [H3 H4 H5 H7 H8 H9 H10 H11]
    · isplitl [H3]; · iexact H3
      isplitl [H4]; · iexact H4
      isplitl [H5]; · iexact H5
      isplitl [H7]; · iexact H7
      isplitl [H8]; · iexact H8
      isplitl [H9]; · iexact H9
      isplitl [H10]; · iexact H10
      iexact H11
    · isplitl [H2]; · iexact H2
      iexact H6
  iintro %_ ⟨%g11, HS, H2, H6⟩
  unfold St
  icases HS with ⟨H3, H4, H5, H7, H8, H9, H10, H11⟩
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists _; isplitr
    swap; · iexact H6
    ipureintro; exact read_ratios arg6 _ f6
  isplitl [H7]
  · iexists _; isplitr
    swap; · iexact H7
    ipureintro; exact read_blocks_all arg7 _ f7
  isplitl [H8]
  · iexists _; isplitr
    swap; · iexact H8
    ipureintro; exact read_blocks_all arg8 _ f8
  isplitl [H9]
  · iexists _; isplitr
    swap; · iexact H9
    ipureintro; exact read_codes_all arg9 _ f9
  isplitl [H10]
  · iexists _; isplitr
    swap; · iexact H10
    ipureintro; exact read_scales_all arg10 _ f10
  iexists _; iexists g11; isplitr; · ipureintro; rfl
  iexact H11

/-! ## The body obligation -/

/-- The frame kit's invariant: the scratch, owned at some contents, and the generator's register. -/
theorem PhiA0_eq (c : Dev nD) :
    (Pipeline.ΦA spec0 c : sProp 𝕄)
      = iprop(iprop((∃ d, owns (c : Thread nD τ) (Memref.whole cc0_scratch0 : Memref sig .tc .vmem S2x256x256 .f32) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq,
    after0_0, after0_1, after0_2, after0_3, after0_4, after0_5, after0_6, after0_7, after0_8]
  iintro ⟨⟨H11, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  iapply (wp_wand_r frame (wpE (defs₀ (F := F)) Variants.none (c : Thread nD τ) none) Set.univ)
  isplitl [H2 H3 H4 H5 H6 H7 H8 H9 H10 H11]
  · iapply (body_sound c Set.univ _ _ _ _ _ _ _ _ _ _ _ _ _ _ _ _ _ _ _ _ _ (iblk m c 0 t) (iblk m c 1 t) (iblk m c 2 t) (iblk m c 3 t))
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexact H11
  iintro %_ ⟨H2, H3, H4, H5, H6, H7, H8, H9, H10, H11⟩
  isplitl [H11 Hr]
  · isplitl [H11]; · iexact H11
    iexact Hr
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the windows' arrays at what the proof data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME of the quantising call. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Quant

end
-- ==== Proof.QuantKernel.lean ====
/-
  THE PRINTED QUANTISING CALL: at any float values it is the same program as its reading over the reals, so the frame proved
  of the one is the frame of the other.
-/
module

public import proofs.«01_k».proof.Proof.QuantFrame
public import proofs.«01_k».proof.Proof.Gen.Kernel.Launch
public import Idealize.ShloMosaic.Lib.Pipeline.Regions

@[expose] public section

set_option maxRecDepth 100000

noncomputable section

open Idealize.ShloMosaic Idealize.ShloMosaic.TcCoe Idealize.ShloMosaic.Pipeline Idealize.SL.Sem

namespace Cert.Kernel.Quant

variable {F : FTy → Type} [FloatOps F]

theorem frame_eq :
    (∀ (m : (ℓ : Loc Cert.Kernel.nD Cert.Kernel.τ Cert.Kernel.sig) → Buf (Elt F) ℓ) (ρ : Dev Cert.Kernel.nD → PrngReg),
      θ_run Cert.Kernel.defs (onTc (τ := Cert.Kernel.τ) (Cert.Kernel.main (F := F))) ⟨m, fun _ => 0, ρ⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0)) =
    (∀ (m : (ℓ : Loc Cert.KernelIdeal.nD Cert.KernelIdeal.τ Cert.KernelIdeal.sig) → Buf (Elt F) ℓ) (ρ : Dev Cert.KernelIdeal.nD → PrngReg),
      θ_run Cert.KernelIdeal.defs (onTc (τ := Cert.KernelIdeal.τ) (Cert.KernelIdeal.main (F := F))) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) := by
  chain_rfl

/-- THE FRAME of the printed quantising call. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  frame_eq.mpr (fun m ρ => Cert.KernelIdeal.Quant.frame m ρ) m ρ

end Cert.Kernel.Quant

end
-- ==== Proof.Nvfp4.lean ====
/-
  NVFP4 ON ONE VALUE AND ON ONE BLOCK, over the extended reals: the block's scale, the quotient by the scale, the index of the
  nearest E2M1 magnitude, the code, and what a code stands for. Nothing here speaks of a program; both programs' values are
  read as these functions.
-/
module

public import Idealize.ShloMosaic.Lib.Pointwise

@[expose] public section

set_option maxRecDepth 8192
set_option maxHeartbeats 1000000

noncomputable section

open Idealize.ShloMosaic Idealize.ShloMosaic.TcCoe

namespace Cert.Nvfp4

/-! ## The constants -/

theorem c_quarter : Ideal.ofBits FTy.f32 1048576000#32 = ((0.25 : ℝ) : EReal) := by
  simp [Ideal.ofBits, Ideal.ieee]; rw [← EReal.coe_mul]; norm_num
theorem c_half : Ideal.ofBits FTy.f32 1056964608#32 = ((0.5 : ℝ) : EReal) := by
  simp [Ideal.ofBits, Ideal.ieee]; rw [← EReal.coe_mul]; norm_num
theorem c_three_quarters : Ideal.ofBits FTy.f32 1061158912#32 = ((0.75 : ℝ) : EReal) := by
  simp [Ideal.ofBits, Ideal.ieee]; rw [← EReal.coe_mul]; norm_num
theorem c_5_4 : Ideal.ofBits FTy.f32 1067450368#32 = ((1.25 : ℝ) : EReal) := by
  simp [Ideal.ofBits, Ideal.ieee]; rw [← EReal.coe_mul]; norm_num
theorem c_3_2 : Ideal.ofBits FTy.f32 1069547520#32 = ((1.5 : ℝ) : EReal) := by
  simp [Ideal.ofBits, Ideal.ieee]; rw [← EReal.coe_mul]; norm_num
theorem c_7_4 : Ideal.ofBits FTy.f32 1071644672#32 = ((1.75 : ℝ) : EReal) := by
  simp [Ideal.ofBits, Ideal.ieee]; rw [← EReal.coe_mul]; norm_num
theorem c_2 : Ideal.ofBits FTy.f32 1073741824#32 = ((2 : ℝ) : EReal) := by
  simp [Ideal.ofBits, Ideal.ieee]; rw [← EReal.coe_mul]; norm_num
theorem c_5_2 : Ideal.ofBits FTy.f32 1075838976#32 = ((2.5 : ℝ) : EReal) := by
  simp [Ideal.ofBits, Ideal.ieee]; rw [← EReal.coe_mul]; norm_num
theorem c_3 : Ideal.ofBits FTy.f32 1077936128#32 = ((3 : ℝ) : EReal) := by
  simp [Ideal.ofBits, Ideal.ieee]; rw [← EReal.coe_mul]; norm_num
theorem c_7_2 : Ideal.ofBits FTy.f32 1080033280#32 = ((3.5 : ℝ) : EReal) := by
  simp [Ideal.ofBits, Ideal.ieee]; rw [← EReal.coe_mul]; norm_num
theorem c_4 : Ideal.ofBits FTy.f32 1082130432#32 = ((4 : ℝ) : EReal) := by
  simp [Ideal.ofBits, Ideal.ieee]; rw [← EReal.coe_mul]; norm_num
theorem c_5 : Ideal.ofBits FTy.f32 1084227584#32 = ((5 : ℝ) : EReal) := by
  simp [Ideal.ofBits, Ideal.ieee]; rw [← EReal.coe_mul]; norm_num
theorem c_6 : Ideal.ofBits FTy.f32 1086324736#32 = ((6 : ℝ) : EReal) := by
  simp [Ideal.ofBits, Ideal.ieee]; rw [← EReal.coe_mul]; norm_num
theorem c_448 : Ideal.ofBits FTy.f32 0x43E00000#32 = ((448 : ℝ) : EReal) := by
  simp [Ideal.ofBits, Ideal.ieee]; rw [← EReal.coe_mul]; norm_num
theorem c_5b : Ideal.ofBits FTy.bf16 16544#16 = ((5 : ℝ) : EReal) := by
  simp [Ideal.ofBits, Ideal.ieee]; rw [← EReal.coe_mul]; norm_num

/-! ## The scale and the quotient -/

/-- A block's scale, from the greatest absolute value `b` of the block and the global scale `sg`. -/
def scaleE (sg b : EReal) : EReal :=
  min (Ideal.ofBits FTy.f32 0x43E00000#32) (max 0 (Ideal.div b (Ideal.ofBits FTy.f32 1086324736#32 * sg)))

/-- The reciprocal that the quantiser multiplies by, and the quotient it stands for; zero where the scale is. -/
def recipE (d : EReal) : EReal := if 0 < d then Ideal.div 1 (if 0 < d then d else 1) else 0
def quotE (x d : EReal) : EReal := if 0 < d then Ideal.div x (if 0 < d then d else 1) else 0

theorem mul_recip (x d : EReal) : x * recipE d = quotE x d := by
  unfold recipE quotE
  by_cases h : 0 < d
  · simp only [if_pos h, Ideal.div, if_neg h.ne', one_mul]
  · simp only [if_neg h, mul_zero]

theorem scale_finite (sg b : EReal) : ∃ r : ℝ, scaleE sg b = (r : EReal) := by
  unfold scaleE
  rw [c_448]
  refine ⟨(min ((448 : ℝ) : EReal) (max 0 (Ideal.div b (Ideal.ofBits FTy.f32 1086324736#32 * sg)))).toReal, (EReal.coe_toReal ?_ ?_).symm⟩
  · exact ne_of_lt (lt_of_le_of_lt (min_le_left _ _) (EReal.coe_lt_top _))
  · refine ne_of_gt (lt_of_lt_of_le (EReal.bot_lt_coe 0) (le_min ?_ (le_max_left _ _)))
    exact_mod_cast (by norm_num : (0 : ℝ) ≤ 448)

theorem scale_inf (sg b : EReal) (h : (Ideal.ofBits FTy.f32 1086324736#32 * sg)⁻¹ = 0) (h0 : Ideal.ofBits FTy.f32 1086324736#32 * sg ≠ 0) : scaleE sg b = 0 := by
  unfold scaleE
  rw [Ideal.div, if_neg h0, h, mul_zero, max_self, c_448]
  exact min_eq_right (by exact_mod_cast (by norm_num : (0 : ℝ) ≤ 448))

/-- What the codes are multiplied by is never an infinity, whatever the global scale. -/
theorem den_finite (sg b : EReal) : ∃ r : ℝ, scaleE sg b * sg = (r : EReal) := by
  have h6 : (0 : ℝ) < 6 := by norm_num
  induction sg with
  | bot => exact ⟨0, by rw [scale_inf _ _ (by rw [c_6, EReal.coe_mul_bot_of_pos h6]; simp) (by rw [c_6, EReal.coe_mul_bot_of_pos h6]; simp), zero_mul]; rfl⟩
  | top => exact ⟨0, by rw [scale_inf _ _ (by rw [c_6, EReal.coe_mul_top_of_pos h6]; simp) (by rw [c_6, EReal.coe_mul_top_of_pos h6]; simp), zero_mul]; rfl⟩
  | coe s =>
    obtain ⟨r, hr⟩ := scale_finite s b
    exact ⟨r * s, by rw [hr, EReal.coe_mul]⟩

/-- The value with its low bits cut off, as the kernel cuts it: over the reals, the value. -/
def split6E (d : EReal) : EReal := d * Ideal.ofBits FTy.bf16 16544#16 - (d * Ideal.ofBits FTy.bf16 16544#16 - d)
def high6E (d : EReal) : EReal :=
  if d < split6E d then split6E (split6E d * Ideal.ofBits FTy.f32 1065025536#32) else split6E d

theorem split6_eq (r : ℝ) : split6E (r : EReal) = (r : EReal) := by
  unfold split6E
  rw [c_5b, ← EReal.coe_mul, ← EReal.coe_sub, ← EReal.coe_sub]
  congr 1; ring
theorem high6_eq (r : ℝ) : high6E (r : EReal) = (r : EReal) := by
  unfold high6E
  rw [split6_eq, if_neg (lt_irrefl _)]
theorem sub_self_real (r : ℝ) : (r : EReal) - (r : EReal) = 0 := by
  rw [← EReal.coe_sub, sub_self]; rfl

/-! ## Codes -/

def absE (x : EReal) : EReal := max x (-x)

/-- The magnitude nearest to `m`, a chain of choices. -/
def magE (m : EReal) : EReal :=
  if Ideal.ofBits FTy.f32 1084227584#32 < m then Ideal.ofBits FTy.f32 1086324736#32
  else if Ideal.ofBits FTy.f32 1080033280#32 ≤ m then Ideal.ofBits FTy.f32 1082130432#32
  else if Ideal.ofBits FTy.f32 1075838976#32 < m then Ideal.ofBits FTy.f32 1077936128#32
  else if Ideal.ofBits FTy.f32 1071644672#32 ≤ m then Ideal.ofBits FTy.f32 1073741824#32
  else if Ideal.ofBits FTy.f32 1067450368#32 < m then Ideal.ofBits FTy.f32 1069547520#32
  else if Ideal.ofBits FTy.f32 1061158912#32 ≤ m then 1
  else if Ideal.ofBits FTy.f32 1048576000#32 < m then Ideal.ofBits FTy.f32 1056964608#32 else 0

/-- Its index, by the same chain. -/
def idxB (m : EReal) : BitVec 32 :=
  if Ideal.ofBits FTy.f32 1084227584#32 < m then 7#32
  else if Ideal.ofBits FTy.f32 1080033280#32 ≤ m then 6#32
  else if Ideal.ofBits FTy.f32 1075838976#32 < m then 5#32
  else if Ideal.ofBits FTy.f32 1071644672#32 ≤ m then 4#32
  else if Ideal.ofBits FTy.f32 1067450368#32 < m then 3#32
  else if Ideal.ofBits FTy.f32 1061158912#32 ≤ m then 2#32
  else if Ideal.ofBits FTy.f32 1048576000#32 < m then 1#32 else 0#32

/-- The E2M1 value nearest to `y`, and its four bits with a sign even on zero. -/
def e2m1E (y : EReal) : EReal := if y < 0 then 0 - magE (absE y) else magE (absE y)
def nibB (y : EReal) : BitVec 32 := if y < 0 then IntOp.ori (idxB (absE y)) 8#32 else idxB (absE y)

/-- The index as the number of thresholds passed. -/
def countB (m : EReal) : BitVec 32 :=
  IntOp.addi (IntOp.addi (IntOp.addi (IntOp.addi (IntOp.addi (IntOp.addi
    (BitVec.setWidth 32 (BitVec.ofBool (decide (Ideal.ofBits FTy.f32 1048576000#32 < m))))
    (BitVec.setWidth 32 (BitVec.ofBool (decide (Ideal.ofBits FTy.f32 1061158912#32 ≤ m)))))
    (BitVec.setWidth 32 (BitVec.ofBool (decide (Ideal.ofBits FTy.f32 1067450368#32 < m)))))
    (BitVec.setWidth 32 (BitVec.ofBool (decide (Ideal.ofBits FTy.f32 1071644672#32 ≤ m)))))
    (BitVec.setWidth 32 (BitVec.ofBool (decide (Ideal.ofBits FTy.f32 1075838976#32 < m)))))
    (BitVec.setWidth 32 (BitVec.ofBool (decide (Ideal.ofBits FTy.f32 1080033280#32 ≤ m)))))
    (BitVec.setWidth 32 (BitVec.ofBool (decide (Ideal.ofBits FTy.f32 1084227584#32 < m))))

/-- The code: the index, with the sign bit where the value is negative and the index is not zero. -/
def codeB (v : EReal) : BitVec 32 :=
  IntOp.ori (countB (absE v)) (IntOp.shli ArithUnit.vector
    (BitVec.setWidth 32 (IntOp.andi (BitVec.ofBool (decide (v < 0))) (IntOp.cmpi CmpIPredicate.sgt (countB (absE v)) 0#32))) 3#32)

/-- Which of the eight magnitudes is nearest: chain, index and count say the same. -/
theorem pick (m : EReal) : ∃ i : Fin 8, idxB m = BitVec.ofNat 32 i.val ∧ countB m = BitVec.ofNat 32 i.val ∧
    magE m = (((![0, 0.5, 1, 1.5, 2, 3, 4, 6] : Fin 8 → ℝ) i : ℝ) : EReal) := by
  have e1 : Ideal.ofBits FTy.f32 1048576000#32 < Ideal.ofBits FTy.f32 1061158912#32 := by rw [c_quarter, c_three_quarters]; exact_mod_cast (by norm_num : (0.25 : ℝ) < 0.75)
  have e2 : Ideal.ofBits FTy.f32 1061158912#32 < Ideal.ofBits FTy.f32 1067450368#32 := by rw [c_three_quarters, c_5_4]; exact_mod_cast (by norm_num : (0.75 : ℝ) < 1.25)
  have e3 : Ideal.ofBits FTy.f32 1067450368#32 < Ideal.ofBits FTy.f32 1071644672#32 := by rw [c_7_4, c_5_4]; exact_mod_cast (by norm_num : (1.25 : ℝ) < 1.75)
  have e4 : Ideal.ofBits FTy.f32 1071644672#32 < Ideal.ofBits FTy.f32 1075838976#32 := by rw [c_7_4, c_5_2]; exact_mod_cast (by norm_num : (1.75 : ℝ) < 2.5)
  have e5 : Ideal.ofBits FTy.f32 1075838976#32 < Ideal.ofBits FTy.f32 1080033280#32 := by rw [c_7_2, c_5_2]; exact_mod_cast (by norm_num : (2.5 : ℝ) < 3.5)
  have e6 : Ideal.ofBits FTy.f32 1080033280#32 < Ideal.ofBits FTy.f32 1084227584#32 := by rw [c_7_2, c_5]; exact_mod_cast (by norm_num : (3.5 : ℝ) < 5)
  unfold idxB countB magE
  rw [c_half, c_3_2, c_2, c_3, c_4, c_6]
  by_cases h7 : Ideal.ofBits FTy.f32 1084227584#32 < m
  · have h6 := (e6.trans h7).le
    have h5 := e5.trans_le h6
    have h4 := (e4.trans h5).le
    have h3 := e3.trans_le h4
    have h2 := (e2.trans h3).le
    have h1 := e1.trans_le h2
    exact ⟨7, by simp only [h1, h2, h3, h4, h5, h6, h7, if_true]; rfl, by simp only [h1, h2, h3, h4, h5, h6, h7, decide_true]; decide, by simp only [h7, if_true]; rfl⟩
  by_cases h6 : Ideal.ofBits FTy.f32 1080033280#32 ≤ m
  · have h5 := e5.trans_le h6
    have h4 := (e4.trans h5).le
    have h3 := e3.trans_le h4
    have h2 := (e2.trans h3).le
    have h1 := e1.trans_le h2
    exact ⟨6, by simp only [h6, h7, if_true, if_false]; rfl, by simp only [h1, h2, h3, h4, h5, h6, h7, decide_true, decide_false]; decide, by simp only [h6, h7, if_true, if_false]; rfl⟩
  by_cases h5 : Ideal.ofBits FTy.f32 1075838976#32 < m
  · have h4 := (e4.trans h5).le
    have h3 := e3.trans_le h4
    have h2 := (e2.trans h3).le
    have h1 := e1.trans_le h2
    exact ⟨5, by simp only [h5, h6, h7, if_true, if_false]; rfl, by simp only [h1, h2, h3, h4, h5, h6, h7, decide_true, decide_false]; decide, by simp only [h5, h6, h7, if_true, if_false]; rfl⟩
  by_cases h4 : Ideal.ofBits FTy.f32 1071644672#32 ≤ m
  · have h3 := e3.trans_le h4
    have h2 := (e2.trans h3).le
    have h1 := e1.trans_le h2
    exact ⟨4, by simp only [h4, h5, h6, h7, if_true, if_false]; rfl, by simp only [h1, h2, h3, h4, h5, h6, h7, decide_true, decide_false]; decide, by simp only [h4, h5, h6, h7, if_true, if_false]; rfl⟩
  by_cases h3 : Ideal.ofBits FTy.f32 1067450368#32 < m
  · have h2 := (e2.trans h3).le
    have h1 := e1.trans_le h2
    exact ⟨3, by simp only [h3, h4, h5, h6, h7, if_true, if_false]; rfl, by simp only [h1, h2, h3, h4, h5, h6, h7, decide_true, decide_false]; decide, by simp only [h3, h4, h5, h6, h7, if_true, if_false]; rfl⟩
  by_cases h2 : Ideal.ofBits FTy.f32 1061158912#32 ≤ m
  · have h1 := e1.trans_le h2
    exact ⟨2, by simp only [h2, h3, h4, h5, h6, h7, if_true, if_false]; rfl, by simp only [h1, h2, h3, h4, h5, h6, h7, decide_true, decide_false]; decide, by simp only [h2, h3, h4, h5, h6, h7, if_true, if_false]; rfl⟩
  by_cases h1 : Ideal.ofBits FTy.f32 1048576000#32 < m
  · exact ⟨1, by simp only [h1, h2, h3, h4, h5, h6, h7, if_true, if_false]; rfl, by simp only [h1, h2, h3, h4, h5, h6, h7, decide_true, decide_false]; decide, by simp only [h1, h2, h3, h4, h5, h6, h7, if_true, if_false]; rfl⟩
  · exact ⟨0, by simp only [h1, h2, h3, h4, h5, h6, h7, if_false]; rfl, by simp only [h1, h2, h3, h4, h5, h6, h7, decide_false]; decide, by simp only [h1, h2, h3, h4, h5, h6, h7, if_false]; rfl⟩

/-- The sixteen values that a code can stand for. -/
def table (c : Fin 16) : ℝ := (![0, 0.5, 1, 1.5, 2, 3, 4, 6, 0, -0.5, -1, -1.5, -2, -3, -4, -6] : Fin 16 → ℝ) c

/-- A code of four bits with the sign of a zero dropped. -/
def drop8 (n : Fin 16) : Fin 16 := if n = 8 then 0 else n

/-- The signed four bits, the code and the value of one `y` are those of one of sixteen. -/
theorem code_spec (y : EReal) : ∃ n : Fin 16, nibB y = BitVec.ofNat 32 n.val ∧ codeB y = BitVec.ofNat 32 (drop8 n).val ∧ e2m1E y = ((table (drop8 n) : ℝ) : EReal) := by
  obtain ⟨i, h1, h2, h3⟩ := pick (absE y)
  by_cases hy : y < 0
  · refine ⟨⟨i.val + 8, by omega⟩, ?_, ?_, ?_⟩
    · unfold nibB; rw [if_pos hy, h1]; clear h1 h2 h3; revert i; decide
    · unfold codeB; rw [h2]; simp only [hy, decide_true]; clear h1 h2 h3; revert i; decide
    · unfold e2m1E; rw [if_pos hy, h3]
      rw [show (0 : EReal) = ((0 : ℝ) : EReal) from rfl, ← EReal.coe_sub]
      congr 1
      fin_cases i <;> simp [table, drop8]
  · refine ⟨⟨i.val, by omega⟩, ?_, ?_, ?_⟩
    · unfold nibB; rw [if_neg hy, h1]
    · unfold codeB; rw [h2]; simp only [hy, decide_false]; clear h1 h2 h3; revert i; decide
    · unfold e2m1E; rw [if_neg hy, h3]
      congr 1
      fin_cases i <;> simp [table, drop8]

/-! ## What a code stands for -/

/-- The value of a code: exponent and mantissa bit, then the sign. -/
def magDecode (c : BitVec 32) : EReal :=
  if (FloatOps.sitofp FTy.f32 (IntOp.andi (IntOp.shrsi ArithUnit.vector c 1#32) 3#32) : Ideal .f32) = 0 then
    Ideal.ofBits FTy.f32 1056964608#32 * (FloatOps.sitofp FTy.f32 (IntOp.andi c 1#32) : Ideal .f32)
  else
    (FloatOps.exp2 ((FloatOps.sitofp FTy.f32 (IntOp.andi (IntOp.shrsi ArithUnit.vector c 1#32) 3#32) : Ideal .f32) - 1) : Ideal .f32) *
      (1 + Ideal.ofBits FTy.f32 1056964608#32 * (FloatOps.sitofp FTy.f32 (IntOp.andi c 1#32) : Ideal .f32))
def decodeE (c : BitVec 32) : EReal :=
  Scalar.select (IntOp.cmpi CmpIPredicate.ne (IntOp.andi c 8#32) 0#32) (0 - magDecode c) (magDecode c)

theorem sitofp_eq (b : BitVec 32) : (FloatOps.sitofp FTy.f32 b : Ideal .f32) = ((b.toInt : ℝ) : EReal) := rfl
theorem exp2_real (r : ℝ) : (FloatOps.exp2 (((r : ℝ) : EReal) : Ideal .f32) : Ideal .f32) = ((Real.rpow 2 r : ℝ) : EReal) := rfl

/-- A magnitude from its exponent `e` and mantissa bit `t`. -/
theorem magDecode_of (c : BitVec 32) (e t : ℕ) (he : (IntOp.andi (IntOp.shrsi ArithUnit.vector c 1#32) 3#32).toInt = (e : ℤ))
    (ht : (IntOp.andi c 1#32).toInt = (t : ℤ)) :
    magDecode c = ((if e = 0 then 0.5 * (t : ℝ) else (2 : ℝ) ^ (e - 1) * (1 + 0.5 * (t : ℝ)) : ℝ) : EReal) := by
  unfold magDecode
  rw [sitofp_eq, sitofp_eq, he, ht, c_half]
  by_cases h : e = 0
  · subst h
    rw [if_pos (by simp), if_pos rfl, ← EReal.coe_mul]
    simp
  · rw [if_neg (by simpa using h), if_neg h, show (1 : EReal) = ((1 : ℝ) : EReal) from rfl, ← EReal.coe_sub, exp2_real, ← EReal.coe_mul, ← EReal.coe_add, ← EReal.coe_mul]
    obtain ⟨k, rfl⟩ := Nat.exists_eq_succ_of_ne_zero h
    congr 2
    · show Real.rpow 2 (((k + 1 : ℕ) : ℤ) - 1 : ℝ) = (2 : ℝ) ^ (k + 1 - 1)
      rw [show (((k + 1 : ℕ) : ℤ) - 1 : ℝ) = (k : ℝ) by push_cast; ring]
      exact Real.rpow_natCast 2 k

theorem decode_table (c : Fin 16) : decodeE (BitVec.ofNat 32 c.val) = ((table c : ℝ) : EReal) := by
  have he : ∀ c : Fin 16, (IntOp.andi (IntOp.shrsi ArithUnit.vector (BitVec.ofNat 32 c.val) 1#32) 3#32).toInt = ((c.val / 2 % 4 : ℕ) : ℤ) := by decide
  have ht : ∀ c : Fin 16, (IntOp.andi (BitVec.ofNat 32 c.val) 1#32).toInt = ((c.val % 2 : ℕ) : ℤ) := by decide
  have hs : ∀ c : Fin 16, IntOp.cmpi CmpIPredicate.ne (IntOp.andi (BitVec.ofNat 32 c.val) 8#32) 0#32 = if 8 ≤ c.val then 1#1 else 0#1 := by decide
  unfold decodeE
  rw [hs, magDecode_of _ _ _ (he c) (ht c), show (0 : EReal) = ((0 : ℝ) : EReal) from rfl, ← EReal.coe_sub]
  have hif : ∀ (p : Prop) [Decidable p] (a b : ℝ), Scalar.select (if p then 1#1 else 0#1) (a : EReal) (b : EReal) = (((if p then a else b) : ℝ) : EReal) := by
    intro p _ a b; by_cases hp : p <;> simp [Scalar.select, hp]
  rw [hif]
  congr 1
  fin_cases c <;> simp [table] <;> norm_num

/-! ## One block -/

/-- The greatest absolute value of a block. -/
def bmax (u : Fin 16 → EReal) : EReal := Finset.univ.fold max (Ideal.ofBits FTy.f32 4286578688#32) fun k => absE (u k)

/-- What the codes of a block are multiplied by. -/
def denE (sg : EReal) (u : Fin 16 → EReal) : EReal := scaleE sg (bmax u) * sg

/-- The quotient of the block's entry `k`, and its code. -/
def vE (sg : EReal) (u : Fin 16 → EReal) (k : Fin 16) : EReal := quotE (u k) (denE sg u)

/-- What is left of the block's entry `k`. -/
def resE (sg : EReal) (u : Fin 16 → EReal) (k : Fin 16) : EReal := u k - e2m1E (vE sg u k) * denE sg u

/-- The energies of a block. -/
def sigE (u : Fin 16 → EReal) : EReal := ∑ k : Fin 16, u k * u k
def errE (sg : EReal) (u : Fin 16 → EReal) : EReal := ∑ k : Fin 16, resE sg u k * resE sg u k

/-- A token's ratio from its energies. -/
def ratioE (s e : EReal) : EReal :=
  if 0 < s then
    Ideal.ofBits FTy.f32 1092616192#32 *
      (Ideal.log (Ideal.div (if 0 < s then s else 1) (max e (Ideal.ofBits FTy.f32 228737632#32))) * Ideal.ofBits FTy.f32 1054759897#32)
  else 0

/-- The byte of a pair of codes. -/
def byteB (a b : EReal) : BitVec 32 := IntOp.ori (codeB a) (IntOp.shli ArithUnit.vector (codeB b) 4#32)

/-- A byte gives its two codes back. -/
theorem byte_low (a b : EReal) : decodeE (IntOp.andi (byteB a b) 15#32) = e2m1E a := by
  obtain ⟨n, _, h1, h2⟩ := code_spec a
  obtain ⟨p, _, h3, _⟩ := code_spec b
  have : ∀ n p : Fin 16, IntOp.andi (IntOp.ori (BitVec.ofNat 32 n.val) (IntOp.shli ArithUnit.vector (BitVec.ofNat 32 p.val) 4#32)) 15#32 = BitVec.ofNat 32 n.val := by decide +kernel
  unfold byteB
  rw [h1, h3, this, decode_table, h2]
theorem byte_high (a b : EReal) : decodeE (IntOp.shrsi ArithUnit.vector (byteB a b) 4#32) = e2m1E b := by
  obtain ⟨n, _, h1, _⟩ := code_spec a
  obtain ⟨p, _, h3, h4⟩ := code_spec b
  have : ∀ n p : Fin 16, IntOp.shrsi ArithUnit.vector (IntOp.ori (BitVec.ofNat 32 n.val) (IntOp.shli ArithUnit.vector (BitVec.ofNat 32 p.val) 4#32)) 4#32 = BitVec.ofNat 32 p.val := by decide +kernel
  unfold byteB
  rw [h1, h3, this, decode_table, h4]

/-- The two places of pair `p`. -/
def ev (p : Fin 8) : Fin 16 := ⟨p.val * 2, by omega⟩
def od (p : Fin 8) : Fin 16 := ⟨p.val * 2 + 1, by omega⟩

/-- A sum over sixteen is the sum over the even places and that over the odd. -/
theorem sum_pairs (f : Fin 16 → EReal) :
    (∑ x : Fin 8, f (ev x)) + (∑ x : Fin 8, f (od x)) = ∑ k : Fin 16, f k := by
  rw [← Finset.sum_add_distrib]
  simp only [Fin.sum_univ_succ, Fin.sum_univ_zero, add_zero]
  simp only [add_assoc]
  rfl

end Cert.Nvfp4

end
-- ==== Proof.QuantUnitValue.lean ====
/-
  WHAT A UNIT COMPUTES, over the extended reals: for block `n` of the tile and token `l` of the half, the signal, the scale and
  the error are the block's, as the functions of the block's sixteen entries.
-/
module

public import proofs.«01_k».proof.Proof.QuantStep
public import proofs.«01_k».proof.Proof.Nvfp4
public import Idealize.ShloMosaic.Lib.Pointwise

@[expose] public section

set_option maxRecDepth 8192
set_option maxHeartbeats 1000000

noncomputable section

open Idealize.ShloMosaic Idealize.ShloMosaic.TcCoe Cert.Nvfp4

namespace Cert.KernelIdeal.Quant

open Cert.KernelIdeal Cert.KernelIdeal.Gen

/-- The sixteen entries of block `n` at token `l`. -/
def entries (sl : Fin 16 → Vec Ideal S1x16x128 .f32) (n : Fin 16) (l : Fin 128) : Fin 16 → EReal := fun k => sl k (ix3 (0 : Fin 1) n l)

variable (v0 : EReal) (sl : Fin 16 → Vec Ideal S1x16x128 .f32) (n : Fin 16) (l : Fin 128)

theorem rowB_apply (v : Vec Ideal S1x16x128 .f32) : rowB v (ix2 n l) = v (ix3 (0 : Fin 1) n l) := by
  pointwise [rowB, row]
  done
theorem blockScale_apply (m : FVec Ideal S16x128 .bf16) : blockScale v0 m (ix2 n l) = scaleE v0 (m (ix2 n l)) := by
  pointwise [blockScale, cst16]
  rfl
theorem denom_apply (m : FVec Ideal S16x128 .f32) : denom v0 m (ix2 n l) = m (ix2 n l) * v0 := by
  pointwise [denom]
  done
theorem recip_apply (d : FVec Ideal S16x128 .f32) : recip d (ix2 n l) = recipE (d (ix2 n l)) := by
  pointwise [recip, cst16]
  rfl
theorem high6_apply (d : FVec Ideal S16x128 .f32) : high6 d (ix2 n l) = high6E (d (ix2 n l)) := by
  pointwise [high6, near6, split6, cst16]
  rfl
theorem e2m1_apply (y : FVec Ideal S128x128 .f32) (r : Fin 128) : e2m1 y (ix2 r l) = e2m1E (y (ix2 r l)) := by
  pointwise [e2m1, magnitude, cst128]
  rfl
theorem nibble_apply (y : FVec Ideal S128x128 .f32) (r : Fin 128) : nibble y (ix2 r l) = nibB (y (ix2 r l)) := by
  pointwise [nibble, magIndex, cst128, int128]
  rfl

/-- The greatest of sixteen, one after another. -/
theorem bmax_eq (u : Fin 16 → EReal) :
    max (max (max (max (max (max (max (max (max (max (max (max (max (max (max (absE (u 0)) (absE (u 1))) (absE (u 2))) (absE (u 3))) (absE (u 4))) (absE (u 5))) (absE (u 6))) (absE (u 7))) (absE (u 8))) (absE (u 9))) (absE (u 10))) (absE (u 11))) (absE (u 12))) (absE (u 13))) (absE (u 14))) (absE (u 15)) = bmax u := by
  have hbot : Ideal.ofBits FTy.f32 4286578688#32 = ⊥ := by simp [Ideal.ofBits, Ideal.ieee]
  refine eq_of_forall_ge_iff fun c => ?_
  unfold bmax
  rw [hbot, Finset.fold_max_le]
  simp only [max_le_iff, bot_le, true_and, Finset.mem_univ, true_imp_iff, Fin.forall_fin_succ, IsEmpty.forall_iff, and_true]
  simp only [and_assoc]
  rfl

theorem scaleOf_apply : scaleOf v0 sl (ix2 n l) = scaleE v0 (bmax (entries sl n l)) := by
  unfold scaleOf uScale
  rw [blockScale_apply]
  refine congrArg (scaleE v0) ?_
  rw [← bmax_eq]
  pointwise [blockMax, mx]
  simp only [rowB_apply]
  rfl

theorem sum16 (f : Fin 16 → EReal) :
    f 0 + f 1 + f 2 + f 3 + f 4 + f 5 + f 6 + f 7 + f 8 + f 9 + f 10 + f 11 + f 12 + f 13 + f 14 + f 15 = ∑ k : Fin 16, f k := by
  simp only [Fin.sum_univ_succ, Fin.sum_univ_zero, add_zero]
  simp only [add_assoc]
  rfl

theorem sigOf_apply : sigOf sl (ix2 n l) = sigE (entries sl n l) := by
  unfold sigOf uSignal sigE
  rw [← sum16]
  pointwise [dot16, plus, prod]
  simp only [rowB_apply]
  rfl

/-- The denominator of the block, and its reciprocal's products. -/
abbrev denOf (v0 : EReal) (sl : Fin 16 → Vec Ideal S1x16x128 .f32) : FVec Ideal S16x128 .f32 :=
  uDen v0 (sl 0) (sl 1) (sl 2) (sl 3) (sl 4) (sl 5) (sl 6) (sl 7) (sl 8) (sl 9) (sl 10) (sl 11) (sl 12) (sl 13) (sl 14) (sl 15)
theorem denOf_apply : denOf v0 sl (ix2 n l) = denE v0 (entries sl n l) := by
  unfold denOf uDen
  rw [denom_apply]
  exact congrArg (· * v0) (scaleOf_apply v0 sl n l)

/-- Row `16 p + n` of eight stacked slices is row `n` of slice `p`. -/
theorem stack_apply (a : Fin 8 → FVec Ideal S16x128 .f32) (p : Fin 8) (r : Fin 128) (hr : r.val = 16 * p.val + n.val) :
    stack (a 0) (a 1) (a 2) (a 3) (a 4) (a 5) (a 6) (a 7) (ix2 r l) = a p (ix2 n l) := by
  have hn := n.isLt
  pointwise [stack]
  fin_cases p
  all_goals
    simp only at hr
    split_ifs <;> first | (exfalso; omega) | exact congrArg (fun i => a _ (ix2 i l)) (Fin.ext (by show _ = n.val; simp only; omega))

theorem scaled_apply (y : Fin 8 → Vec Ideal S1x16x128 .f32) (d : FVec Ideal S16x128 .f32) (p : Fin 8) (r : Fin 128) (hr : r.val = 16 * p.val + n.val) :
    scaled (y 0) (y 1) (y 2) (y 3) (y 4) (y 5) (y 6) (y 7) (recip d) (ix2 r l) = quotE (y p (ix3 (0 : Fin 1) n l)) (d (ix2 n l)) := by
  rw [← mul_recip, ← recip_apply]
  refine congrArg₂ (· * ·) ((stack_apply n l (fun i => row (y i)) p r hr).trans ?_) (stack_apply n l (fun _ => recip d) p r hr)
  exact rowB_apply n l (y p)

/-- The quotients of the even entries of the blocks, and of the odd. -/
abbrev evenOf (v0 : EReal) (sl : Fin 16 → Vec Ideal S1x16x128 .f32) : FVec Ideal S128x128 .f32 :=
  uEven v0 (sl 0) (sl 1) (sl 2) (sl 3) (sl 4) (sl 5) (sl 6) (sl 7) (sl 8) (sl 9) (sl 10) (sl 11) (sl 12) (sl 13) (sl 14) (sl 15)
abbrev oddOf (v0 : EReal) (sl : Fin 16 → Vec Ideal S1x16x128 .f32) : FVec Ideal S128x128 .f32 :=
  uOdd v0 (sl 0) (sl 1) (sl 2) (sl 3) (sl 4) (sl 5) (sl 6) (sl 7) (sl 8) (sl 9) (sl 10) (sl 11) (sl 12) (sl 13) (sl 14) (sl 15)
theorem evenOf_apply (p : Fin 8) (r : Fin 128) (hr : r.val = 16 * p.val + n.val) :
    evenOf v0 sl (ix2 r l) = vE v0 (entries sl n l) (ev p) := by
  unfold vE
  rw [← denOf_apply]
  exact scaled_apply n l (fun i => sl (ev i)) _ p r hr
theorem oddOf_apply (p : Fin 8) (r : Fin 128) (hr : r.val = 16 * p.val + n.val) :
    oddOf v0 sl (ix2 r l) = vE v0 (entries sl n l) (od p) := by
  unfold vE
  rw [← denOf_apply]
  exact scaled_apply n l (fun i => sl (od i)) _ p r hr

theorem code0_apply (q : FVec Ideal S128x128 .f32) : code0 q (ix2 n l) = q (ix2 ⟨0 + n.val, by have := n.isLt; omega⟩ l) := by
  pointwise [code0]
  done
theorem code1_apply (q : FVec Ideal S128x128 .f32) : code1 q (ix2 n l) = q (ix2 ⟨16 + n.val, by have := n.isLt; omega⟩ l) := by
  pointwise [code1]
  done
theorem code2_apply (q : FVec Ideal S128x128 .f32) : code2 q (ix2 n l) = q (ix2 ⟨32 + n.val, by have := n.isLt; omega⟩ l) := by
  pointwise [code2]
  done
theorem code3_apply (q : FVec Ideal S128x128 .f32) : code3 q (ix2 n l) = q (ix2 ⟨48 + n.val, by have := n.isLt; omega⟩ l) := by
  pointwise [code3]
  done
theorem code4_apply (q : FVec Ideal S128x128 .f32) : code4 q (ix2 n l) = q (ix2 ⟨64 + n.val, by have := n.isLt; omega⟩ l) := by
  pointwise [code4]
  done
theorem code5_apply (q : FVec Ideal S128x128 .f32) : code5 q (ix2 n l) = q (ix2 ⟨80 + n.val, by have := n.isLt; omega⟩ l) := by
  pointwise [code5]
  done
theorem code6_apply (q : FVec Ideal S128x128 .f32) : code6 q (ix2 n l) = q (ix2 ⟨96 + n.val, by have := n.isLt; omega⟩ l) := by
  pointwise [code6]
  done
theorem code7_apply (q : FVec Ideal S128x128 .f32) : code7 q (ix2 n l) = q (ix2 ⟨112 + n.val, by have := n.isLt; omega⟩ l) := by
  pointwise [code7]
  done

/-- The sixteen columns' codes, and their residuals. -/
def codeOf (v0 : EReal) (sl : Fin 16 → Vec Ideal S1x16x128 .f32) : Fin 16 → FVec Ideal S16x128 .bf16 := ![
  uCode0 v0 (sl 0) (sl 1) (sl 2) (sl 3) (sl 4) (sl 5) (sl 6) (sl 7) (sl 8) (sl 9) (sl 10) (sl 11) (sl 12) (sl 13) (sl 14) (sl 15),
  uCode1 v0 (sl 0) (sl 1) (sl 2) (sl 3) (sl 4) (sl 5) (sl 6) (sl 7) (sl 8) (sl 9) (sl 10) (sl 11) (sl 12) (sl 13) (sl 14) (sl 15),
  uCode2 v0 (sl 0) (sl 1) (sl 2) (sl 3) (sl 4) (sl 5) (sl 6) (sl 7) (sl 8) (sl 9) (sl 10) (sl 11) (sl 12) (sl 13) (sl 14) (sl 15),
  uCode3 v0 (sl 0) (sl 1) (sl 2) (sl 3) (sl 4) (sl 5) (sl 6) (sl 7) (sl 8) (sl 9) (sl 10) (sl 11) (sl 12) (sl 13) (sl 14) (sl 15),
  uCode4 v0 (sl 0) (sl 1) (sl 2) (sl 3) (sl 4) (sl 5) (sl 6) (sl 7) (sl 8) (sl 9) (sl 10) (sl 11) (sl 12) (sl 13) (sl 14) (sl 15),
  uCode5 v0 (sl 0) (sl 1) (sl 2) (sl 3) (sl 4) (sl 5) (sl 6) (sl 7) (sl 8) (sl 9) (sl 10) (sl 11) (sl 12) (sl 13) (sl 14) (sl 15),
  uCode6 v0 (sl 0) (sl 1) (sl 2) (sl 3) (sl 4) (sl 5) (sl 6) (sl 7) (sl 8) (sl 9) (sl 10) (sl 11) (sl 12) (sl 13) (sl 14) (sl 15),
  uCode7 v0 (sl 0) (sl 1) (sl 2) (sl 3) (sl 4) (sl 5) (sl 6) (sl 7) (sl 8) (sl 9) (sl 10) (sl 11) (sl 12) (sl 13) (sl 14) (sl 15),
  uCode8 v0 (sl 0) (sl 1) (sl 2) (sl 3) (sl 4) (sl 5) (sl 6) (sl 7) (sl 8) (sl 9) (sl 10) (sl 11) (sl 12) (sl 13) (sl 14) (sl 15),
  uCode9 v0 (sl 0) (sl 1) (sl 2) (sl 3) (sl 4) (sl 5) (sl 6) (sl 7) (sl 8) (sl 9) (sl 10) (sl 11) (sl 12) (sl 13) (sl 14) (sl 15),
  uCode10 v0 (sl 0) (sl 1) (sl 2) (sl 3) (sl 4) (sl 5) (sl 6) (sl 7) (sl 8) (sl 9) (sl 10) (sl 11) (sl 12) (sl 13) (sl 14) (sl 15),
  uCode11 v0 (sl 0) (sl 1) (sl 2) (sl 3) (sl 4) (sl 5) (sl 6) (sl 7) (sl 8) (sl 9) (sl 10) (sl 11) (sl 12) (sl 13) (sl 14) (sl 15),
  uCode12 v0 (sl 0) (sl 1) (sl 2) (sl 3) (sl 4) (sl 5) (sl 6) (sl 7) (sl 8) (sl 9) (sl 10) (sl 11) (sl 12) (sl 13) (sl 14) (sl 15),
  uCode13 v0 (sl 0) (sl 1) (sl 2) (sl 3) (sl 4) (sl 5) (sl 6) (sl 7) (sl 8) (sl 9) (sl 10) (sl 11) (sl 12) (sl 13) (sl 14) (sl 15),
  uCode14 v0 (sl 0) (sl 1) (sl 2) (sl 3) (sl 4) (sl 5) (sl 6) (sl 7) (sl 8) (sl 9) (sl 10) (sl 11) (sl 12) (sl 13) (sl 14) (sl 15),
  uCode15 v0 (sl 0) (sl 1) (sl 2) (sl 3) (sl 4) (sl 5) (sl 6) (sl 7) (sl 8) (sl 9) (sl 10) (sl 11) (sl 12) (sl 13) (sl 14) (sl 15)]
def resOf (v0 : EReal) (sl : Fin 16 → Vec Ideal S1x16x128 .f32) : Fin 16 → FVec Ideal S16x128 .bf16 := ![
  uRes0 v0 (sl 0) (sl 1) (sl 2) (sl 3) (sl 4) (sl 5) (sl 6) (sl 7) (sl 8) (sl 9) (sl 10) (sl 11) (sl 12) (sl 13) (sl 14) (sl 15),
  uRes1 v0 (sl 0) (sl 1) (sl 2) (sl 3) (sl 4) (sl 5) (sl 6) (sl 7) (sl 8) (sl 9) (sl 10) (sl 11) (sl 12) (sl 13) (sl 14) (sl 15),
  uRes2 v0 (sl 0) (sl 1) (sl 2) (sl 3) (sl 4) (sl 5) (sl 6) (sl 7) (sl 8) (sl 9) (sl 10) (sl 11) (sl 12) (sl 13) (sl 14) (sl 15),
  uRes3 v0 (sl 0) (sl 1) (sl 2) (sl 3) (sl 4) (sl 5) (sl 6) (sl 7) (sl 8) (sl 9) (sl 10) (sl 11) (sl 12) (sl 13) (sl 14) (sl 15),
  uRes4 v0 (sl 0) (sl 1) (sl 2) (sl 3) (sl 4) (sl 5) (sl 6) (sl 7) (sl 8) (sl 9) (sl 10) (sl 11) (sl 12) (sl 13) (sl 14) (sl 15),
  uRes5 v0 (sl 0) (sl 1) (sl 2) (sl 3) (sl 4) (sl 5) (sl 6) (sl 7) (sl 8) (sl 9) (sl 10) (sl 11) (sl 12) (sl 13) (sl 14) (sl 15),
  uRes6 v0 (sl 0) (sl 1) (sl 2) (sl 3) (sl 4) (sl 5) (sl 6) (sl 7) (sl 8) (sl 9) (sl 10) (sl 11) (sl 12) (sl 13) (sl 14) (sl 15),
  uRes7 v0 (sl 0) (sl 1) (sl 2) (sl 3) (sl 4) (sl 5) (sl 6) (sl 7) (sl 8) (sl 9) (sl 10) (sl 11) (sl 12) (sl 13) (sl 14) (sl 15),
  uRes8 v0 (sl 0) (sl 1) (sl 2) (sl 3) (sl 4) (sl 5) (sl 6) (sl 7) (sl 8) (sl 9) (sl 10) (sl 11) (sl 12) (sl 13) (sl 14) (sl 15),
  uRes9 v0 (sl 0) (sl 1) (sl 2) (sl 3) (sl 4) (sl 5) (sl 6) (sl 7) (sl 8) (sl 9) (sl 10) (sl 11) (sl 12) (sl 13) (sl 14) (sl 15),
  uRes10 v0 (sl 0) (sl 1) (sl 2) (sl 3) (sl 4) (sl 5) (sl 6) (sl 7) (sl 8) (sl 9) (sl 10) (sl 11) (sl 12) (sl 13) (sl 14) (sl 15),
  uRes11 v0 (sl 0) (sl 1) (sl 2) (sl 3) (sl 4) (sl 5) (sl 6) (sl 7) (sl 8) (sl 9) (sl 10) (sl 11) (sl 12) (sl 13) (sl 14) (sl 15),
  uRes12 v0 (sl 0) (sl 1) (sl 2) (sl 3) (sl 4) (sl 5) (sl 6) (sl 7) (sl 8) (sl 9) (sl 10) (sl 11) (sl 12) (sl 13) (sl 14) (sl 15),
  uRes13 v0 (sl 0) (sl 1) (sl 2) (sl 3) (sl 4) (sl 5) (sl 6) (sl 7) (sl 8) (sl 9) (sl 10) (sl 11) (sl 12) (sl 13) (sl 14) (sl 15),
  uRes14 v0 (sl 0) (sl 1) (sl 2) (sl 3) (sl 4) (sl 5) (sl 6) (sl 7) (sl 8) (sl 9) (sl 10) (sl 11) (sl 12) (sl 13) (sl 14) (sl 15),
  uRes15 v0 (sl 0) (sl 1) (sl 2) (sl 3) (sl 4) (sl 5) (sl 6) (sl 7) (sl 8) (sl 9) (sl 10) (sl 11) (sl 12) (sl 13) (sl 14) (sl 15)]

theorem codeOf_apply (k : Fin 16) : codeOf v0 sl k (ix2 n l) = e2m1E (vE v0 (entries sl n l) k) := by
  fin_cases k
  · exact (code0_apply n l _).trans ((e2m1_apply l _ _).trans (congrArg e2m1E (evenOf_apply v0 sl n l 0 _ rfl)))
  · exact (code0_apply n l _).trans ((e2m1_apply l _ _).trans (congrArg e2m1E (oddOf_apply v0 sl n l 0 _ rfl)))
  · exact (code1_apply n l _).trans ((e2m1_apply l _ _).trans (congrArg e2m1E (evenOf_apply v0 sl n l 1 _ rfl)))
  · exact (code1_apply n l _).trans ((e2m1_apply l _ _).trans (congrArg e2m1E (oddOf_apply v0 sl n l 1 _ rfl)))
  · exact (code2_apply n l _).trans ((e2m1_apply l _ _).trans (congrArg e2m1E (evenOf_apply v0 sl n l 2 _ rfl)))
  · exact (code2_apply n l _).trans ((e2m1_apply l _ _).trans (congrArg e2m1E (oddOf_apply v0 sl n l 2 _ rfl)))
  · exact (code3_apply n l _).trans ((e2m1_apply l _ _).trans (congrArg e2m1E (evenOf_apply v0 sl n l 3 _ rfl)))
  · exact (code3_apply n l _).trans ((e2m1_apply l _ _).trans (congrArg e2m1E (oddOf_apply v0 sl n l 3 _ rfl)))
  · exact (code4_apply n l _).trans ((e2m1_apply l _ _).trans (congrArg e2m1E (evenOf_apply v0 sl n l 4 _ rfl)))
  · exact (code4_apply n l _).trans ((e2m1_apply l _ _).trans (congrArg e2m1E (oddOf_apply v0 sl n l 4 _ rfl)))
  · exact (code5_apply n l _).trans ((e2m1_apply l _ _).trans (congrArg e2m1E (evenOf_apply v0 sl n l 5 _ rfl)))
  · exact (code5_apply n l _).trans ((e2m1_apply l _ _).trans (congrArg e2m1E (oddOf_apply v0 sl n l 5 _ rfl)))
  · exact (code6_apply n l _).trans ((e2m1_apply l _ _).trans (congrArg e2m1E (evenOf_apply v0 sl n l 6 _ rfl)))
  · exact (code6_apply n l _).trans ((e2m1_apply l _ _).trans (congrArg e2m1E (oddOf_apply v0 sl n l 6 _ rfl)))
  · exact (code7_apply n l _).trans ((e2m1_apply l _ _).trans (congrArg e2m1E (evenOf_apply v0 sl n l 7 _ rfl)))
  · exact (code7_apply n l _).trans ((e2m1_apply l _ _).trans (congrArg e2m1E (oddOf_apply v0 sl n l 7 _ rfl)))

theorem resid_apply (v : Vec Ideal S1x16x128 .f32) (c : FVec Ideal S16x128 .bf16) (d : FVec Ideal S16x128 .f32) :
    resid v c d (ix2 n l) = v (ix3 (0 : Fin 1) n l) - c (ix2 n l) * high6E (d (ix2 n l)) := by
  refine (show _ = rowB v (ix2 n l) - c (ix2 n l) * high6 d (ix2 n l) from rfl).trans ?_
  rw [rowB_apply, high6_apply]

theorem high6_den : high6E (denE v0 (entries sl n l)) = denE v0 (entries sl n l) := by
  obtain ⟨r, hr⟩ := den_finite v0 (bmax (entries sl n l))
  unfold denE
  rw [hr, high6_eq]

theorem resOf_apply (k : Fin 16) : resOf v0 sl k (ix2 n l) = resE v0 (entries sl n l) k := by
  have h : resOf v0 sl k = resid (sl k) (codeOf v0 sl k) (denOf v0 sl) := by fin_cases k <;> rfl
  rw [h, resid_apply, codeOf_apply, denOf_apply, high6_den]
  rfl

theorem dot_apply (a b : Fin 16 → FVec Ideal S16x128 .bf16) :
    dot16 (a 0) (a 1) (a 2) (a 3) (a 4) (a 5) (a 6) (a 7) (a 8) (a 9) (a 10) (a 11) (a 12) (a 13) (a 14) (a 15)
      (b 0) (b 1) (b 2) (b 3) (b 4) (b 5) (b 6) (b 7) (b 8) (b 9) (b 10) (b 11) (b 12) (b 13) (b 14) (b 15) (ix2 n l)
      = ∑ k : Fin 16, a k (ix2 n l) * b k (ix2 n l) := by
  rw [← sum16]
  pointwise [dot16, plus, prod]
  done

theorem errOf_apply : errOf v0 sl (ix2 n l) = errE v0 (entries sl n l) := by
  have hlow : uLow v0 (sl 0) (sl 1) (sl 2) (sl 3) (sl 4) (sl 5) (sl 6) (sl 7) (sl 8) (sl 9) (sl 10) (sl 11) (sl 12) (sl 13) (sl 14) (sl 15) (ix2 n l) = 0 := by
    unfold uLow
    refine (show _ = denOf v0 sl (ix2 n l) - high6 (denOf v0 sl) (ix2 n l) from rfl).trans ?_
    rw [high6_apply, denOf_apply, high6_den]
    obtain ⟨r, hr⟩ := den_finite v0 (bmax (entries sl n l))
    unfold denE
    rw [hr, sub_self_real]
  have hRR : uRR v0 (sl 0) (sl 1) (sl 2) (sl 3) (sl 4) (sl 5) (sl 6) (sl 7) (sl 8) (sl 9) (sl 10) (sl 11) (sl 12) (sl 13) (sl 14) (sl 15) (ix2 n l) = errE v0 (entries sl n l) := by
    refine (dot_apply n l (resOf v0 sl) (resOf v0 sl)).trans ?_
    unfold errE
    exact Finset.sum_congr rfl fun k _ => by rw [resOf_apply]
  unfold errOf uError
  generalize uRC v0 (sl 0) (sl 1) (sl 2) (sl 3) (sl 4) (sl 5) (sl 6) (sl 7) (sl 8) (sl 9) (sl 10) (sl 11) (sl 12) (sl 13) (sl 14) (sl 15) = RC
  generalize uCC v0 (sl 0) (sl 1) (sl 2) (sl 3) (sl 4) (sl 5) (sl 6) (sl 7) (sl 8) (sl 9) (sl 10) (sl 11) (sl 12) (sl 13) (sl 14) (sl 15) = CC
  revert hlow hRR
  generalize uRR v0 (sl 0) (sl 1) (sl 2) (sl 3) (sl 4) (sl 5) (sl 6) (sl 7) (sl 8) (sl 9) (sl 10) (sl 11) (sl 12) (sl 13) (sl 14) (sl 15) = RR
  generalize uLow v0 (sl 0) (sl 1) (sl 2) (sl 3) (sl 4) (sl 5) (sl 6) (sl 7) (sl 8) (sl 9) (sl 10) (sl 11) (sl 12) (sl 13) (sl 14) (sl 15) = D
  intro hlow hRR
  rw [← hRR]
  refine (show _ = RR (ix2 n l) - D (ix2 n l) * (cst16 0x40000000#32 (ix2 n l) * RC (ix2 n l) - D (ix2 n l) * CC (ix2 n l)) from rfl).trans ?_
  rw [hlow, zero_mul, sub_zero]

end Cert.KernelIdeal.Quant

end
-- ==== Proof.QuantTileValue.lean ====
/-
  WHAT A TILE HOLDS, over the extended reals: row `16 k + n`, column `t` of the turned tile is feature `16 n + k` of token `t`, for
  the product with the permutation has one term that is not zero.
-/
module

public import proofs.«01_k».proof.Proof.QuantUnitValue

@[expose] public section

set_option maxRecDepth 8192
set_option maxHeartbeats 1000000

noncomputable section

open Idealize.ShloMosaic Idealize.ShloMosaic.TcCoe Cert.Nvfp4

namespace Cert.KernelIdeal.Quant

open Cert.KernelIdeal Cert.KernelIdeal.Gen

/-- Row `R` of the permutation picks column `16 (R mod 16) + R / 16`. -/
def Turns (x3 : Vec Ideal S256x256 .bf16) : Prop :=
  ∀ R c : Fin 256, x3 (ix2 R c) = if c.val = 16 * (R.val % 16) + R.val / 16 then 1 else 0

theorem pay3_sum (v x3 : Vec Ideal S256x256 .bf16) (R t : Fin 256) :
    k0_pay3 v x3 (ix3 (0 : Fin 1) R t) = ∑ c : Fin 256, x3 (ix2 R c) * v (ix2 t c) := by
  pointwise [k0_pay3]
  done

theorem pay3_apply (v x3 : Vec Ideal S256x256 .bf16) (h3 : Turns x3) (R t : Fin 256) (n k : Fin 16) (hR : R.val = 16 * k.val + n.val) :
    k0_pay3 v x3 (ix3 (0 : Fin 1) R t) = v (ix2 t ⟨16 * n.val + k.val, by omega⟩) := by
  rw [pay3_sum, Finset.sum_eq_single (⟨16 * n.val + k.val, by omega⟩ : Fin 256)]
  · rw [h3, if_pos (by show 16 * n.val + k.val = _; omega), one_mul]
  · intro c _ hc
    rw [h3, if_neg, zero_mul]
    intro h
    exact hc (Fin.ext (by show c.val = 16 * n.val + k.val; omega))
  · exact fun h => absurd (Finset.mem_univ _) h

theorem half_apply (T : Vec Ideal S1x256x256 .f32) (h : Fin 2) (k n : Fin 16) (l : Fin 128) :
    half T h k (ix3 (0 : Fin 1) n l) = T (ix3 (0 : Fin 1) ⟨16 * k.val + n.val, by omega⟩ ⟨128 * h.val + l.val, by omega⟩) := by
  unfold half
  rw [View.ld_apply]
  refine congrArg T (funext fun a => Fin.ext ?_)
  fin_cases a
  · rfl
  · show 16 * k.val + 1 * n.val = 16 * k.val + n.val; omega
  · show 128 * h.val + 1 * l.val = 128 * h.val + l.val; omega

/-- The entries of block `n` of tile `t` at token `l` of half `h`. -/
theorem entries_apply (x5 : Vec Ideal S256x25600 .bf16) (x3 : Vec Ideal S256x256 .bf16) (h3 : Turns x3) (t : ℕ) (ht : t < 100) (h : Fin 2) (n : Fin 16)
    (l : Fin 128) (k : Fin 16) :
    entries (half (tile x5 x3 t) h) n l k = x5 (ix2 ⟨128 * h.val + l.val, by omega⟩ ⟨256 * t + 16 * n.val + k.val, by omega⟩) := by
  unfold entries tile
  rw [half_apply, pay3_apply _ _ h3 _ _ n k rfl, View.ld_apply]
  refine congrArg x5 (funext fun a => Fin.ext ?_)
  have hm : min t 99 = t := by omega
  fin_cases a
  · show 0 + 1 * (128 * h.val + l.val) = 128 * h.val + l.val; omega
  · show 256 * min t 99 + 1 * (16 * n.val + k.val) = 256 * t + 16 * n.val + k.val; omega

end Cert.KernelIdeal.Quant

end
-- ==== Proof.NibbleWords.lean ====
/-
  EIGHT FOUR-BIT FIELDS IN A WORD. The word of eight fields, how the bitwise operations and the shifts by a field act on the fields,
  dropping the negative zeros of all eight at once, and interleaving the fields of two words.
-/
module

public import proofs.«01_k».proof.Proof.Nvfp4

@[expose] public section

noncomputable section

open Idealize.ShloMosaic

namespace Cert.Nibbles

/-- The first `k` of the fields `f`, four bits each, the first lowest. -/
def pack : ℕ → (ℕ → ℕ) → ℕ
  | 0, _ => 0
  | k + 1, f => 2 ^ 4 * pack k (fun i => f (i + 1)) + f 0

theorem testBit_pack : ∀ (k : ℕ) (f : ℕ → ℕ) (_ : ∀ i, f i < 16) (i r : ℕ) (_ : r < 4),
    (pack k f).testBit (4 * i + r) = (decide (i < k) && (f i).testBit r)
  | 0, f, _, i, r, _ => by simp [pack]
  | k + 1, f, hf, 0, r, hr => by
    rw [pack, Nat.testBit_two_pow_mul_add _ (hf 0), if_pos (by omega)]
    simp
  | k + 1, f, hf, i + 1, r, hr => by
    rw [pack, Nat.testBit_two_pow_mul_add _ (hf 0), if_neg (by omega),
      show 4 * (i + 1) + r - 4 = 4 * i + r by omega, testBit_pack k _ (fun i => hf (i + 1)) i r hr]
    simp

/-- A number is its fields, where its bits are the fields' bits. -/
theorem eq_pack (N : ℕ) (f : ℕ → ℕ) (hf : ∀ i, f i < 16) (h : ∀ i r, r < 4 → N.testBit (4 * i + r) = (decide (i < 8) && (f i).testBit r)) :
    N = pack 8 f := by
  refine Nat.eq_of_testBit_eq fun j => ?_
  have e : j = 4 * (j / 4) + j % 4 := (Nat.div_add_mod j 4).symm
  rw [e, h _ _ (Nat.mod_lt _ (by decide)), testBit_pack 8 f hf _ _ (Nat.mod_lt _ (by decide))]

variable (f g : ℕ → ℕ) (hf : ∀ i, f i < 16) (hg : ∀ i, g i < 16)

include hf hg in
theorem pack_or : pack 8 f ||| pack 8 g = pack 8 fun i => f i ||| g i :=
  eq_pack _ _ (fun i => Nat.or_lt_two_pow (n := 4) (hf i) (hg i)) fun i r hr => by
    rw [Nat.testBit_or, testBit_pack 8 f hf i r hr, testBit_pack 8 g hg i r hr, Nat.testBit_or, Bool.and_or_distrib_left]
include hf hg in
theorem pack_and : pack 8 f &&& pack 8 g = pack 8 fun i => f i &&& g i :=
  eq_pack _ _ (fun i => lt_of_le_of_lt Nat.and_le_left (hf i)) fun i r hr => by
    rw [Nat.testBit_and, testBit_pack 8 f hf i r hr, testBit_pack 8 g hg i r hr, Nat.testBit_and]
    cases decide (i < 8) <;> simp
include hf hg in
theorem pack_xor : pack 8 f ^^^ pack 8 g = pack 8 fun i => f i ^^^ g i :=
  eq_pack _ _ (fun i => Nat.xor_lt_two_pow (n := 4) (hf i) (hg i)) fun i r hr => by
    rw [Nat.testBit_xor, testBit_pack 8 f hf i r hr, testBit_pack 8 g hg i r hr, Nat.testBit_xor]
    cases decide (i < 8) <;> simp

include hf in
theorem pack_shr : pack 8 f / 16 = pack 8 fun i => if i = 7 then 0 else f (i + 1) := by
  have := hf 0
  simp only [pack]
  norm_num
  omega
include hf in
theorem pack_shl : pack 8 f * 16 % 2 ^ 32 = pack 8 fun i => if i = 0 then 0 else f (i - 1) := by
  have h0 := hf 0; have h1 := hf 1; have h2 := hf 2; have h3 := hf 3; have h4 := hf 4; have h5 := hf 5; have h6 := hf 6; have h7 := hf 7
  simp only [pack]
  norm_num
  omega
include hf in
theorem pack_lt : pack 8 f < 2 ^ 32 := by
  have h0 := hf 0; have h1 := hf 1; have h2 := hf 2; have h3 := hf 3; have h4 := hf 4; have h5 := hf 5; have h6 := hf 6; have h7 := hf 7
  simp only [pack]
  norm_num
  omega
theorem pack_sub (h : ∀ i, 1 ≤ f i) : pack 8 f = pack 8 (fun i => f i - 1) + pack 8 (fun _ => 1) := by
  have h0 := h 0; have h1 := h 1; have h2 := h 2; have h3 := h 3; have h4 := h 4; have h5 := h 5; have h6 := h 6; have h7 := h 7
  simp only [pack]
  norm_num
  omega
theorem pack_congr (h : ∀ i < 8, f i = g i) : pack 8 f = pack 8 g := by
  simp only [pack]
  norm_num
  rw [h 0, h 1, h 2, h 3, h 4, h 5, h 6, h 7] <;> decide

/-- The word of eight fields. -/
def wordOf (f : ℕ → ℕ) : BitVec 32 := BitVec.ofNat 32 (pack 8 f)

include hf in
theorem toNat_wordOf : (wordOf f).toNat = pack 8 f := by
  unfold wordOf
  rw [BitVec.toNat_ofNat, Nat.mod_eq_of_lt (pack_lt f hf)]

/-- Four bits with a negative zero dropped. -/
def drop (n : ℕ) : ℕ := if n = 8 then 0 else n

include hf in
theorem dropped : IntOp.andi (wordOf f) (IntOp.ori (IntOp.subi (IntOp.ori (wordOf f) 2290649224#32) 286331153#32) 2004318071#32)
    = wordOf fun i => drop (f i) := by
  have h8 : (2290649224 : ℕ) = pack 8 fun _ => 8 := by decide
  have h1 : (286331153 : ℕ) = pack 8 fun _ => 1 := by decide
  have h7 : (2004318071 : ℕ) = pack 8 fun _ => 7 := by decide
  have hor : ∀ i, f i ||| 8 < 16 := fun i => Nat.or_lt_two_pow (n := 4) (hf i) (by decide)
  have hor8 : ∀ i, 1 ≤ f i ||| 8 := fun i => le_trans (by decide) Nat.right_le_or
  have hs : ∀ i, (f i ||| 8) - 1 < 16 := fun i => lt_of_le_of_lt (Nat.sub_le _ _) (hor i)
  have hs7 : ∀ i, ((f i ||| 8) - 1) ||| 7 < 16 := fun i => Nat.or_lt_two_pow (n := 4) (hs i) (by decide)
  have hcell : ∀ n : Fin 16, n.val &&& (((n.val ||| 8) - 1) ||| 7) = drop n.val := by decide
  have e1 : IntOp.ori (wordOf f) 2290649224#32 = wordOf fun i => f i ||| 8 := by
    unfold IntOp.ori wordOf
    rw [h8, ← BitVec.ofNat_or, pack_or f _ hf (fun _ => by decide)]
  have e2 : IntOp.subi (wordOf fun i => f i ||| 8) 286331153#32 = wordOf fun i => (f i ||| 8) - 1 := by
    unfold IntOp.subi wordOf
    rw [h1, pack_sub _ hor8, BitVec.ofNat_add, BitVec.add_sub_cancel]
  have e3 : IntOp.ori (wordOf fun i => (f i ||| 8) - 1) 2004318071#32 = wordOf fun i => ((f i ||| 8) - 1) ||| 7 := by
    unfold IntOp.ori wordOf
    rw [h7, ← BitVec.ofNat_or, pack_or _ _ hs (fun _ => by decide)]
  rw [e1, e2, e3]
  unfold IntOp.andi wordOf
  rw [← BitVec.ofNat_and, pack_and f _ hf hs7]
  exact congrArg (BitVec.ofNat 32) (pack_congr _ _ fun i _ => hcell ⟨f i, hf i⟩)

/-- The low fields of the interleaved words, and the high. -/
def lowOf (f g : ℕ → ℕ) : ℕ → ℕ := fun i => if i % 2 = 0 then f i else g (i - 1)
def highOf (f g : ℕ → ℕ) : ℕ → ℕ := fun i => if i % 2 = 0 then f (i + 1) else g i

theorem shrui4 (u : ArithUnit) (x : BitVec 32) : IntOp.shrui u x 4#32 = BitVec.ofNat 32 (x.toNat / 16) := by
  have h : IntOp.shrui u x 4#32 = x >>> (4#32 : BitVec 32) := rfl
  rw [h]
  apply BitVec.eq_of_toNat_eq
  rw [BitVec.ushiftRight_eq', BitVec.toNat_ushiftRight, BitVec.toNat_ofNat, Nat.shiftRight_eq_div_pow]
  have := x.isLt
  show x.toNat / 2 ^ 4 = _
  norm_num at *
  omega
theorem shli4 (u : ArithUnit) (x : BitVec 32) : IntOp.shli u x 4#32 = BitVec.ofNat 32 (x.toNat * 16 % 2 ^ 32) := by
  have h : IntOp.shli u x 4#32 = x <<< (4#32 : BitVec 32) := rfl
  rw [h]
  apply BitVec.eq_of_toNat_eq
  rw [BitVec.shiftLeft_eq', BitVec.toNat_shiftLeft, BitVec.toNat_ofNat, Nat.shiftLeft_eq]
  show x.toNat * 2 ^ 4 % 2 ^ 32 = _
  norm_num

include hf hg in
theorem swapped : IntOp.andi (IntOp.xori (IntOp.shrui ArithUnit.vector (wordOf f) 4#32) (wordOf g)) 252645135#32
    = wordOf fun i => if i % 2 = 0 then f (i + 1) ^^^ g i else 0 := by
  have hm : (252645135 : ℕ) = pack 8 fun i => if i % 2 = 0 then 15 else 0 := by decide
  have hs : ∀ i, (if i = 7 then 0 else f (i + 1)) < 16 := fun i => by split_ifs <;> [decide; exact hf _]
  have hx : ∀ i, (if i = 7 then 0 else f (i + 1)) ^^^ g i < 16 := fun i => Nat.xor_lt_two_pow (n := 4) (hs i) (hg i)
  rw [shrui4, toNat_wordOf f hf, pack_shr f hf]
  unfold IntOp.andi IntOp.xori wordOf
  rw [hm, ← BitVec.ofNat_xor, pack_xor _ _ hs hg, ← BitVec.ofNat_and, pack_and _ _ hx (fun i => by split_ifs <;> decide)]
  refine congrArg (BitVec.ofNat 32) (pack_congr _ _ fun i hi => ?_)
  have h15 : ∀ n : Fin 16, n.val &&& 15 = n.val := by decide
  by_cases h : i % 2 = 0
  · rw [if_pos h, if_pos h, if_neg (by omega)]
    exact h15 ⟨_, Nat.xor_lt_two_pow (n := 4) (hf (i + 1)) (hg i)⟩
  · rw [if_neg h, if_neg h, Nat.and_zero]

include hf hg in
theorem low_word : IntOp.xori (wordOf f) (IntOp.shli ArithUnit.vector (wordOf fun i => if i % 2 = 0 then f (i + 1) ^^^ g i else 0) 4#32)
    = wordOf (lowOf f g) := by
  have hs : ∀ i, (if i % 2 = 0 then f (i + 1) ^^^ g i else 0) < 16 := fun i => by
    split_ifs <;> [exact Nat.xor_lt_two_pow (n := 4) (hf _) (hg _); decide]
  have hx : ∀ i, (if i = 0 then 0 else if (i - 1) % 2 = 0 then f (i - 1 + 1) ^^^ g (i - 1) else 0) < 16 := fun i => by
    split_ifs <;> [decide; exact Nat.xor_lt_two_pow (n := 4) (hf _) (hg _); decide]
  rw [shli4, toNat_wordOf _ hs, pack_shl _ hs]
  unfold IntOp.xori wordOf
  rw [← BitVec.ofNat_xor, pack_xor _ _ hf hx]
  refine congrArg (BitVec.ofNat 32) (pack_congr _ _ fun i hi => ?_)
  unfold lowOf
  by_cases h : i % 2 = 0
  · rw [if_pos h]
    by_cases h0 : i = 0
    · rw [if_pos h0, Nat.xor_zero]
    · rw [if_neg h0, if_neg (by omega), Nat.xor_zero]
  · rw [if_neg h, if_neg (by omega), if_pos (by omega), show i - 1 + 1 = i by omega, ← Nat.xor_assoc, Nat.xor_self, Nat.zero_xor]

include hf hg in
theorem high_word : IntOp.xori (wordOf g) (wordOf fun i => if i % 2 = 0 then f (i + 1) ^^^ g i else 0) = wordOf (highOf f g) := by
  have hs : ∀ i, (if i % 2 = 0 then f (i + 1) ^^^ g i else 0) < 16 := fun i => by
    split_ifs <;> [exact Nat.xor_lt_two_pow (n := 4) (hf _) (hg _); decide]
  unfold IntOp.xori wordOf
  rw [← BitVec.ofNat_xor, pack_xor _ _ hg hs]
  refine congrArg (BitVec.ofNat 32) (pack_congr _ _ fun i hi => ?_)
  unfold highOf
  by_cases h : i % 2 = 0
  · rw [if_pos h, if_pos h, Nat.xor_comm (f (i + 1)), ← Nat.xor_assoc, Nat.xor_self, Nat.zero_xor]
  · rw [if_neg h, if_neg h, Nat.xor_zero]

include hf in
/-- Byte `b` of a word is the pair of its fields `2 b` and `2 b + 1`. -/
theorem byte_of_word (b : ℕ) (hb : b < 4) (y : BitVec 8) (h : ∀ q < 8, y.getLsbD q = (wordOf f).getLsbD (8 * b + q)) :
    y = BitVec.ofNat 8 (f (2 * b) + 16 * f (2 * b + 1)) := by
  apply BitVec.eq_of_getLsbD_eq
  intro q hq
  have e : 8 * b + q = 4 * (2 * b + q / 4) + q % 4 := by omega
  have hlt : f (2 * b) + 16 * f (2 * b + 1) < 2 ^ 8 := by have := hf (2 * b); have := hf (2 * b + 1); norm_num; omega
  have hbit : (f (2 * b) + 16 * f (2 * b + 1)).testBit q = if q < 4 then (f (2 * b)).testBit q else (f (2 * b + 1)).testBit (q - 4) := by
    rw [Nat.add_comm (f (2 * b)) _]
    exact Nat.testBit_two_pow_mul_add (i := 4) _ (hf (2 * b)) q
  rw [h q hq, BitVec.getLsbD, BitVec.getLsbD, toNat_wordOf f hf, e, testBit_pack 8 f hf _ _ (by omega), BitVec.toNat_ofNat,
    Nat.mod_eq_of_lt hlt, decide_eq_true (by omega), Bool.true_and, hbit]
  by_cases h4 : q < 4
  · rw [if_pos h4, show q / 4 = 0 by omega, show q % 4 = q by omega, Nat.add_zero]
  · rw [if_neg h4, show q / 4 = 1 by omega, show q % 4 = q - 4 by omega]

/-- The sum of eight four-bit fields, each shifted to its place. -/
theorem sum_word (x : Fin 8 → BitVec 32) (n : ℕ → ℕ) (hx : ∀ p : Fin 8, x p = BitVec.ofNat 32 (n p.val)) :
    Finset.fold IntOp.addi (0#32) (fun p : Fin 8 => IntOp.shli ArithUnit.vector (x p) (IntOp.muli (BitVec.ofNat 32 p.val) 4#32)) Finset.univ
      = wordOf n := by
  have hs : ∀ (p : Fin 8), IntOp.shli ArithUnit.vector (x p) (IntOp.muli (BitVec.ofNat 32 p.val) 4#32) = BitVec.ofNat 32 (n p.val * 16 ^ p.val) := by
    intro p
    have hk : (IntOp.muli (BitVec.ofNat 32 p.val) 4#32).toNat = 4 * p.val := by revert p; decide
    unfold IntOp.shli
    rw [if_pos (by rw [hk]; omega), hx, BitVec.shiftLeft_eq', hk]
    apply BitVec.eq_of_toNat_eq
    rw [BitVec.toNat_shiftLeft, BitVec.toNat_ofNat, BitVec.toNat_ofNat, Nat.shiftLeft_eq, pow_mul, Nat.mod_mul_mod]
    norm_num
  simp only [hs]
  refine (show _ = BitVec.ofNat 32 (n 0 * 16 ^ 0) + (BitVec.ofNat 32 (n 1 * 16 ^ 1) + (BitVec.ofNat 32 (n 2 * 16 ^ 2) + (BitVec.ofNat 32 (n 3 * 16 ^ 3) + (BitVec.ofNat 32 (n 4 * 16 ^ 4) + (BitVec.ofNat 32 (n 5 * 16 ^ 5) + (BitVec.ofNat 32 (n 6 * 16 ^ 6) + (BitVec.ofNat 32 (n 7 * 16 ^ 7) + BitVec.ofNat 32 0))))))) from rfl).trans ?_
  simp only [← BitVec.ofNat_add]
  unfold wordOf
  refine congrArg (BitVec.ofNat 32) ?_
  simp only [pack]
  norm_num
  ring

end Cert.Nibbles

end
-- ==== Proof.QuantCodeValue.lean ====
/-
  WHAT THE BYTES OF A UNIT ARE: byte `8 n + p` of a token is the pair of codes of entries `2 p` and `2 p + 1` of block `n`.
-/
module

public import proofs.«01_k».proof.Proof.QuantTileValue
public import proofs.«01_k».proof.Proof.NibbleWords
public import Idealize.ShloMosaic.Lib.BitcastFour

@[expose] public section

set_option maxRecDepth 8192
set_option maxHeartbeats 1000000

noncomputable section

open Idealize.ShloMosaic Idealize.ShloMosaic.TcCoe Cert.Nvfp4 Cert.Nibbles

namespace Cert.KernelIdeal.Quant

open Cert.KernelIdeal Cert.KernelIdeal.Gen

/-- Words read as bytes: byte `4 a + b` of a column is byte `b` of word `a`. -/
theorem byte_getLsbD {R r n : ℕ} (x : (⟨2, ![r, n]⟩ : Shape).Idx → BitVec 32) (h : (⟨2, ![r, n]⟩ : Shape).Bitcasts 32 ⟨2, ![R, n]⟩ 8)
    (p : Fin R) (l : Fin n) (a : Fin r) (b : ℕ) (hb : b < 4) (hp : p.val = 4 * a.val + b) (q : ℕ) (hq : q < 8) :
    (bitcast ⟨2, ![R, n]⟩ 8 x h (ix2 p l)).getLsbD q = (x (ix2 a l)).getLsbD (8 * b + q) := by
  rw [bitcast_getLsbD x h _ q hq (by decide)]
  have hrow : Shape.row ⟨2, ![R, n]⟩ (ix2 p l) = p.val := rfl
  have e1 : (Shape.row ⟨2, ![R, n]⟩ (ix2 p l) * 8 + q) / 32 = a.val := by rw [hrow]; omega
  have e2 : (Shape.row ⟨2, ![R, n]⟩ (ix2 p l) * 8 + q) % 32 = 8 * b + q := by rw [hrow]; omega
  rw [e2]
  refine congrArg (fun i => (x i).getLsbD (8 * b + q)) (funext fun c => ?_)
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The signed four bits of a quotient. -/
def nib (y : EReal) : Fin 16 := (code_spec y).choose
theorem nib_bits (y : EReal) : nibB y = BitVec.ofNat 32 (nib y).val := (code_spec y).choose_spec.1
theorem nib_code (y : EReal) : codeB y = BitVec.ofNat 32 (drop8 (nib y)).val := (code_spec y).choose_spec.2.1

/-- The eight fields of word `i` of a lane. -/
def fields (y : FVec Ideal S128x128 .f32) (i : Fin 16) (l : Fin 128) (p : ℕ) : ℕ :=
  if h : p < 8 then (nib (y (ix2 ⟨i.val * 8 + p, by omega⟩ l))).val else 0
theorem fields_lt (y : FVec Ideal S128x128 .f32) (i : Fin 16) (l : Fin 128) (p : ℕ) : fields y i l p < 16 := by
  unfold fields
  split_ifs
  · exact (nib _).isLt
  · decide
theorem drop_lt (n : ℕ) (h : n < 16) : drop n < 16 := by unfold drop; split_ifs <;> omega

theorem word_apply (y : FVec Ideal S128x128 .f32) (i : Fin 16) (l : Fin 128) :
    noNegZero (word (nibble y)) (ix2 i l) = wordOf fun p => drop (fields y i l p) := by
  have h : word (nibble y) (ix2 i l) = wordOf (fields y i l) := by
    generalize hn : nibble y = x
    pointwise [word]
    refine sum_word (fun p => x (ix2 ⟨i.val * 8 + p.val, by omega⟩ l)) _ fun p => ?_
    subst hn
    refine (nibble_apply l y _).trans ?_
    rw [nib_bits]
    unfold fields
    rw [dif_pos p.isLt]
  generalize word (nibble y) = w at *
  pointwise [noNegZero, int16]
  rw [h]
  exact dropped _ (fields_lt y i l)

theorem bytes_apply (x y : FVec Ideal S128x128 .f32) (l : Fin 128) (h b : ℕ) (hh : h < 2) (hb : b < 4) (i : Fin 16) (r R : Fin 128)
    (hr : r.val = 64 * h + 4 * i.val + b) (hR : R.val = 8 * i.val + 2 * b + h) :
    bytes (noNegZero (word (nibble x))) (noNegZero (word (nibble y))) (ix2 r l) = BitVec.setWidth 8 (byteB (x (ix2 R l)) (y (ix2 R l))) := by
  have hx := word_apply x i l
  have hy := word_apply y i l
  have dx : ∀ p, drop (fields x i l p) < 16 := fun p => drop_lt _ (fields_lt x i l p)
  have dy : ∀ p, drop (fields y i l p) < 16 := fun p => drop_lt _ (fields_lt y i l p)
  have fx : fields x i l (2 * b + h) = (nib (x (ix2 R l))).val := by
    unfold fields
    rw [dif_pos (by omega)]
    exact congrArg (fun k => (nib (x (ix2 k l))).val) (Fin.ext (by show i.val * 8 + (2 * b + h) = R.val; omega))
  have fy : fields y i l (2 * b + h) = (nib (y (ix2 R l))).val := by
    unfold fields
    rw [dif_pos (by omega)]
    exact congrArg (fun k => (nib (y (ix2 k l))).val) (Fin.ext (by show i.val * 8 + (2 * b + h) = R.val; omega))
  have hbyte : BitVec.setWidth 8 (byteB (x (ix2 R l)) (y (ix2 R l))) = BitVec.ofNat 8 (drop (fields x i l (2 * b + h)) + 16 * drop (fields y i l (2 * b + h))) := by
    have hd : ∀ n m : Fin 16, BitVec.setWidth 8 (IntOp.ori (BitVec.ofNat 32 (drop8 n).val) (IntOp.shli ArithUnit.vector (BitVec.ofNat 32 (drop8 m).val) 4#32))
        = BitVec.ofNat 8 (drop n.val + 16 * drop m.val) := by decide +kernel
    rw [fx, fy]
    unfold byteB
    rw [nib_code, nib_code, hd]
  rw [hbyte]
  clear hbyte fx fy
  generalize fields x i l = F at *
  generalize fields y i l = G at *
  generalize noNegZero (word (nibble x)) = X at *
  generalize noNegZero (word (nibble y)) = Y at *
  have hsw : swap X Y (ix2 i l) = wordOf fun p => if p % 2 = 0 then drop (F (p + 1)) ^^^ drop (G p) else 0 := by
    have := swapped (fun p => drop (F p)) (fun p => drop (G p)) dx dy
    rw [← hx, ← hy] at this
    exact this
  have lowb : ∀ p, lowOf (fun p => drop (F p)) (fun p => drop (G p)) p < 16 := fun p => by unfold lowOf; split_ifs <;> [exact dx _; exact dy _]
  have highb : ∀ p, highOf (fun p => drop (F p)) (fun p => drop (G p)) p < 16 := fun p => by unfold highOf; split_ifs <;> [exact dx _; exact dy _]
  generalize hS : swap X Y = S at *
  pointwise [bytes, int16]
  rw [hS]
  rcases (show h = 0 ∨ h = 1 by omega) with rfl | rfl
  · rw [dif_pos (by omega)]
    have hw := low_word (fun p => drop (F p)) (fun p => drop (G p)) dx dy
    have hb' := byte_of_word _ lowb b hb
    rw [show lowOf (fun p => drop (F p)) (fun p => drop (G p)) (2 * b) = drop (F (2 * b + 0)) by unfold lowOf; rw [if_pos (by omega)]; rfl,
      show lowOf (fun p => drop (F p)) (fun p => drop (G p)) (2 * b + 1) = drop (G (2 * b + 0)) by unfold lowOf; rw [if_neg (by omega)]; rfl] at hb'
    refine hb' _ fun q hq => (byte_getLsbD _ _ _ l i b hb (by show r.val = _; omega) q hq).trans ?_
    refine congrArg (fun w : BitVec 32 => w.getLsbD (8 * b + q)) ?_
    rw [← hw, ← hsw, ← hx]
    rfl
  · rw [dif_neg (by omega)]
    have hw := high_word (fun p => drop (F p)) (fun p => drop (G p)) dx dy
    have hb' := byte_of_word _ highb b hb
    rw [show highOf (fun p => drop (F p)) (fun p => drop (G p)) (2 * b) = drop (F (2 * b + 1)) by unfold highOf; rw [if_pos (by omega)],
      show highOf (fun p => drop (F p)) (fun p => drop (G p)) (2 * b + 1) = drop (G (2 * b + 1)) by unfold highOf; rw [if_neg (by omega)]] at hb'
    refine hb' _ fun q hq => (byte_getLsbD _ _ _ l i b hb (by show r.val - 64 = _; omega) q hq).trans ?_
    refine congrArg (fun w : BitVec 32 => w.getLsbD (8 * b + q)) ?_
    rw [← hw, ← hsw, ← hy]
    rfl

/-- Column `8 n + p` of the turned bytes is byte `64 (n mod 2) + 4 (2 p + n / 8) + (n mod 8) / 2`. -/
def laneIdx (c : ℕ) : ℕ := 64 * (c / 8 % 2) + 4 * (2 * (c % 8) + c / 8 / 8) + c / 8 % 8 / 2
def Takes (l : Vec Ideal S1x128 .i32) : Prop := ∀ c : Fin 128, l (ix2 (0 : Fin 1) c) = BitVec.ofNat 32 (laneIdx c.val)
theorem laneIdx_lt (c : Fin 128) : laneIdx c.val < 128 := by unfold laneIdx; omega

theorem gather_apply (W : IVec S32x128 32) (idx : IVec S32x128 32) (a : Fin 32) (c k : Fin 128) (hk : idx (ix2 a c) = BitVec.ofNat 32 k.val) :
    dynamicGather 1 W idx (ix2 a c) = W (ix2 a k) := by
  rw [dynamicGather_apply]
  refine congrArg W (funext fun x => ?_)
  match x with
  | ⟨0, _⟩ => rfl
  | ⟨1, _⟩ =>
    refine Fin.ext ?_
    show (idx (ix2 a c)).toNat % 128 = k.val
    rw [hk, BitVec.toNat_ofNat, Nat.mod_eq_of_lt (show k.val < 2 ^ 32 by have := k.isLt; omega), Nat.mod_eq_of_lt k.isLt]

theorem turned_apply (l : Vec Ideal S1x128 .i32) (hl : Takes l) (b : IVec S128x128 8) (t c : Fin 128) :
    turned l b (ix2 t c) = b (ix2 ⟨laneIdx c.val, laneIdx_lt c⟩ t) := by
  have hidx : ∀ a : Fin 32, (shapeCast S32x128 (shapeCast S32x128x1 (select (cmpi .slt (lanes l) (int32 0#32)) (addi (lanes l) (int32 128#32)) (lanes l))
      shapeCasts_S32x128_S32x128x1) shapeCasts_S32x128x1_S32x128) (ix2 a c) = BitVec.ofNat 32 (laneIdx c.val) := by
    intro a
    pointwise [lanes, int32]
    rw [hl c]
    have : ∀ k : Fin 128, Scalar.select (IntOp.cmpi CmpIPredicate.slt (BitVec.ofNat 32 k.val) 0#32) (IntOp.addi (BitVec.ofNat 32 k.val) 128#32) (BitVec.ofNat 32 k.val) = BitVec.ofNat 32 k.val := by decide
    exact this ⟨laneIdx c.val, laneIdx_lt c⟩
  unfold turned
  apply BitVec.eq_of_getLsbD_eq
  intro q hq
  rw [byte_getLsbD _ _ t c ⟨t.val / 4, by omega⟩ (t.val % 4) (by omega) (by show t.val = 4 * (t.val / 4) + t.val % 4; omega) q hq,
    gather_apply _ _ _ c ⟨laneIdx c.val, laneIdx_lt c⟩ (hidx _)]
  refine (bitcast_8_32_getLsbD_ix2 (R := 128) (r := 32) (n := 128) _ bitcasts_S128x128_w8_S32x128_w32 _ _ _ (by omega) t (by show t.val = 4 * (t.val / 4) + _; omega)).trans ?_
  rw [show (8 * (t.val % 4) + q) % 8 = q by omega]
  refine congrArg (fun w : BitVec 8 => w.getLsbD q) ?_
  pointwise
  done

theorem bytesOf_apply (v0 : EReal) (sl : Fin 16 → Vec Ideal S1x16x128 .f32) (l : Vec Ideal S1x128 .i32) (hl : Takes l) (t c : Fin 128)
    (n : Fin 16) (p : Fin 8) (hc : c.val = 8 * n.val + p.val) :
    bytesOf v0 sl l (ix2 t c) = BitVec.setWidth 8 (byteB (vE v0 (entries sl n t) (ev p)) (vE v0 (entries sl n t) (od p))) := by
  have hR : 16 * p.val + n.val < 128 := by omega
  have c1 : c.val / 8 = n.val := by omega
  have c2 : c.val % 8 = p.val := by omega
  unfold bytesOf uBytes
  rw [turned_apply l hl]
  rw [bytes_apply _ _ t (n.val % 2) (n.val % 8 / 2) (by omega) (by omega) ⟨2 * p.val + n.val / 8, by omega⟩ _ ⟨16 * p.val + n.val, hR⟩
    (by show laneIdx c.val = 64 * (n.val % 2) + 4 * (2 * p.val + n.val / 8) + n.val % 8 / 2; unfold laneIdx; rw [c1, c2])
    (by show 16 * p.val + n.val = 8 * (2 * p.val + n.val / 8) + 2 * (n.val % 8 / 2) + n.val % 2; omega)]
  exact congrArg₂ (fun a b => BitVec.setWidth 8 (byteB a b)) (evenOf_apply v0 sl n t p _ rfl) (oddOf_apply v0 sl n t p _ rfl)

end Cert.KernelIdeal.Quant

end
-- ==== Proof.QuantBlockValue.lean ====
/-
  WHAT A TOKEN BLOCK'S RESULTS ARE, over the extended reals: of each token, the energies and the scale of its 1600 blocks, the
  pairs of codes, and the ratio of the summed energies.
-/
module

public import proofs.«01_k».proof.Proof.QuantCodeValue
public import proofs.«01_k».proof.Proof.QuantFrame

@[expose] public section

set_option maxRecDepth 8192
set_option maxHeartbeats 1000000

noncomputable section

open Idealize.ShloMosaic Idealize.ShloMosaic.TcCoe Cert.Nvfp4

namespace Cert.KernelIdeal.Quant

open Cert.KernelIdeal Cert.KernelIdeal.Gen

/-- Block `N` of token `t`. -/
def blockAt (x5 : Vec Ideal S256x25600 .bf16) (t : Fin 256) (N : Fin 1600) : Fin 16 → EReal := fun k => x5 (ix2 t ⟨16 * N.val + k.val, by omega⟩)

variable (x2 : Vec Ideal S1x1 .f32) (x5 : Vec Ideal S256x25600 .bf16) (x3 : Vec Ideal S256x256 .bf16) (h3 : Turns x3)

include h3 in
theorem entries_eq (T : ℕ) (h : Fin 2) (n : Fin 16) (l : Fin 128) (t : Fin 256) (N : Fin 1600) (ht : t.val = 128 * h.val + l.val) (hN : N.val = 16 * T + n.val) :
    entries (half (tile x5 x3 T) h) n l = blockAt x5 t N := by
  have hT : T < 100 := by omega
  funext k
  rw [entries_apply x5 x3 h3 T hT h n l k]
  unfold blockAt
  refine congrArg x5 (funext fun a => Fin.ext ?_)
  match a with
  | ⟨0, _⟩ => exact ht.symm
  | ⟨1, _⟩ => show 256 * T + 16 * n.val + k.val = 16 * N.val + k.val; omega

theorem back_apply (v : FVec Ideal S16x128 .f32) (n : Fin 16) (l : Fin 128) : back v (ix3 (0 : Fin 1) n l) = v (ix2 n l) := by
  pointwise [back]
  done

include h3 in
theorem outSignal_apply (N : Fin 1600) (t : Fin 256) : outSignal x3 x5 (ix3 (0 : Fin 1) N t) = sigE (blockAt x5 t N) := by
  refine (show _ = back (sigOf (half (tile x5 x3 (N.val / 16)) ⟨t.val / 128, by omega⟩)) (ix3 (0 : Fin 1) ⟨N.val % 16, by omega⟩ ⟨t.val % 128, by omega⟩) from rfl).trans ?_
  rw [back_apply, sigOf_apply, entries_eq x5 x3 h3 _ _ _ _ t N (by show t.val = 128 * (t.val / 128) + t.val % 128; omega) (by show N.val = 16 * (N.val / 16) + N.val % 16; omega)]
include h3 in
theorem outError_apply (N : Fin 1600) (t : Fin 256) : outError x2 x3 x5 (ix3 (0 : Fin 1) N t) = errE (sgOf x2) (blockAt x5 t N) := by
  refine (show _ = back (errOf (sgOf x2) (half (tile x5 x3 (N.val / 16)) ⟨t.val / 128, by omega⟩)) (ix3 (0 : Fin 1) ⟨N.val % 16, by omega⟩ ⟨t.val % 128, by omega⟩) from rfl).trans ?_
  rw [back_apply, errOf_apply, entries_eq x5 x3 h3 _ _ _ _ t N (by show t.val = 128 * (t.val / 128) + t.val % 128; omega) (by show N.val = 16 * (N.val / 16) + N.val % 16; omega)]

theorem allCodes_apply (g : ℕ → Fin 2 → IVec S128x128 8) (t : Fin 256) (j : Fin 12800) :
    allCodes (F := Ideal) g (ix2 t j) = g (j.val / 128) ⟨t.val / 128, by omega⟩ (ix2 ⟨t.val % 128, by omega⟩ ⟨j.val % 128, by omega⟩) := rfl

include h3 in
theorem outCodes_apply (x4 : Vec Ideal S1x128 .i32) (h4 : Takes x4) (t : Fin 256) (j : Fin 12800) (N : Fin 1600) (p : Fin 8) (hj : j.val = 8 * N.val + p.val) :
    outCodes x2 x3 x4 x5 (ix2 t j) = BitVec.setWidth 8 (byteB (vE (sgOf x2) (blockAt x5 t N) (ev p)) (vE (sgOf x2) (blockAt x5 t N) (od p))) := by
  unfold outCodes
  refine (allCodes_apply _ t j).trans ?_
  rw [bytesOf_apply _ _ x4 h4 _ _ ⟨N.val % 16, by omega⟩ p (by show j.val % 128 = 8 * (N.val % 16) + p.val; omega),
    entries_eq x5 x3 h3 _ _ _ _ t N (by show t.val = 128 * (t.val / 128) + t.val % 128; omega) (by show N.val = 16 * (j.val / 128) + N.val % 16; omega)]

/-- The scales of two halves of four tiles: row `16 r + n`, column `128 h + l`. -/
theorem scales4_apply (v0 : EReal) (T : ℕ → Vec Ideal S1x256x256 .f32) (k : ℕ) (R : Fin 64) (t : Fin 256) (r : ℕ) (h : Fin 2) (n : Fin 16) (l : Fin 128)
    (hr : r < 4) (hR : R.val = 16 * r + n.val) (ht : t.val = 128 * h.val + l.val) :
    scales4 v0 T k (ix3 (0 : Fin 1) R t) = scaleOf v0 (half (T (4 * k + r)) h) (ix2 n l) := by
  unfold scales4
  generalize ha : (fun r h => scaleOf v0 (half (T (4 * k + r)) h)) = A
  have e : ∀ r h, scaleOf v0 (half (T (4 * k + r)) h) = A r h := fun r h => congrFun (congrFun ha r) h
  simp only [e]
  clear e ha
  have hn := n.isLt
  have hl := l.isLt
  have hh : h = 0 ∨ h = 1 := by omega
  have hr' : r = 0 ∨ r = 1 ∨ r = 2 ∨ r = 3 := by omega
  pointwise [fourTiles, halves]
  rcases hh with rfl | rfl <;> rcases hr' with rfl | rfl | rfl | rfl <;> simp only [Fin.val_zero, Fin.val_one] at ht <;>
    split_ifs <;> first | (exfalso; omega) | exact congrArg₂ (fun a b => A _ _ (ix2 a b)) (Fin.ext (by show _ = n.val; simp only; omega)) (Fin.ext (by show _ = l.val; simp only; omega))

include h3 in
theorem outScales_apply (N : Fin 1600) (t : Fin 256) : outScales x2 x3 x5 (ix3 (0 : Fin 1) N t) = scaleE (sgOf x2) (bmax (blockAt x5 t N)) := by
  refine (show _ = scales4 (sgOf x2) (tile x5 x3) (N.val / 64) (ix3 (0 : Fin 1) ⟨N.val % 64, by omega⟩ t) from rfl).trans ?_
  rw [scales4_apply _ _ _ _ _ (N.val % 64 / 16) ⟨t.val / 128, by omega⟩ ⟨N.val % 16, by omega⟩ ⟨t.val % 128, by omega⟩ (by omega)
    (by show N.val % 64 = 16 * (N.val % 64 / 16) + N.val % 16; omega) (by show t.val = 128 * (t.val / 128) + t.val % 128; omega),
    scaleOf_apply, entries_eq x5 x3 h3 _ _ _ _ t N (by show t.val = 128 * (t.val / 128) + t.val % 128; omega)
    (by show N.val = 16 * (4 * (N.val / 64) + N.val % 64 / 16) + N.val % 16; omega)]

/-! ## The sums over a token's blocks -/

theorem zero_apply (n : Fin 16) (l : Fin 128) : (k0_pay1001 (F := Ideal)) (ix2 n l) = 0 := by
  pointwise [k0_pay1001]
  done

theorem four_more (f : ℕ → EReal) (k : ℕ) : ∑ j ∈ Finset.range (4 * (k + 1)), f j = ∑ j ∈ Finset.range (4 * k), f j + f (4 * k + 0) + f (4 * k + 1) + f (4 * k + 2) + f (4 * k + 3) := by
  rw [show 4 * (k + 1) = 4 * k + 1 + 1 + 1 + 1 by ring, Finset.sum_range_succ, Finset.sum_range_succ, Finset.sum_range_succ, Finset.sum_range_succ]
  rfl

theorem sums_apply (v0 : EReal) (T : ℕ → Vec Ideal S1x256x256 .f32) (n : Fin 16) (l : Fin 128) : ∀ k : ℕ,
    (sumsFrom v0 T (k0_pay1001, k0_pay1001, k0_pay1001, k0_pay1001) k).1 (ix2 n l) = ∑ j ∈ Finset.range (4 * k), sigOf (half (T j) 0) (ix2 n l)
    ∧ (sumsFrom v0 T (k0_pay1001, k0_pay1001, k0_pay1001, k0_pay1001) k).2.1 (ix2 n l) = ∑ j ∈ Finset.range (4 * k), errOf v0 (half (T j) 0) (ix2 n l)
    ∧ (sumsFrom v0 T (k0_pay1001, k0_pay1001, k0_pay1001, k0_pay1001) k).2.2.1 (ix2 n l) = ∑ j ∈ Finset.range (4 * k), sigOf (half (T j) 1) (ix2 n l)
    ∧ (sumsFrom v0 T (k0_pay1001, k0_pay1001, k0_pay1001, k0_pay1001) k).2.2.2 (ix2 n l) = ∑ j ∈ Finset.range (4 * k), errOf v0 (half (T j) 1) (ix2 n l)
  | 0 => ⟨zero_apply n l, zero_apply n l, zero_apply n l, zero_apply n l⟩
  | k + 1 => by
    obtain ⟨h1, h2, h3, h4⟩ := sums_apply v0 T n l k
    refine ⟨?_, ?_, ?_, ?_⟩ <;> rw [four_more]
    · rw [← h1]; rfl
    · rw [← h2]; rfl
    · rw [← h3]; rfl
    · rw [← h4]; rfl

theorem sum_blocks (f : ℕ → Fin 16 → EReal) (G : Fin 1600 → EReal) (h : ∀ (T : Fin 100) (n : Fin 16), f T.val n = G ⟨16 * T.val + n.val, by omega⟩) :
    ∑ n : Fin 16, ∑ j ∈ Finset.range 100, f j n = ∑ N : Fin 1600, G N := by
  simp only [Finset.sum_range]
  rw [Finset.sum_comm, ← Fintype.sum_prod_type' (f := fun (T : Fin 100) (n : Fin 16) => f T.val n), ← Equiv.sum_comp (finProdFinEquiv (m := 100) (n := 16))]
  refine Finset.sum_congr rfl fun x _ => ?_
  rw [h]
  exact congrArg G (Fin.ext (by show 16 * x.1.val + x.2.val = x.2.val + 16 * x.1.val; omega))

theorem ratio_low (a b : FVec Ideal S16x128 .f32) (l : Fin 128) :
    k0_pay1 (k0_pay1006 a b) (ix3 (0 : Fin 1) (0 : Fin 1) l) = ratioE (∑ x : Fin 16, a (ix2 x l)) (∑ x : Fin 16, b (ix2 x l)) := by
  pointwise [k0_pay1, k0_pay1006]
  rfl
theorem ratio_high (a b : FVec Ideal S16x128 .f32) (l : Fin 128) :
    k0_pay2 a b (ix3 (0 : Fin 1) (0 : Fin 1) l) = ratioE (∑ x : Fin 16, a (ix2 x l)) (∑ x : Fin 16, b (ix2 x l)) := by
  pointwise [k0_pay2]
  rfl

include h3 in
theorem outRatio_apply (t : Fin 256) :
    outRatio x2 x3 x5 (ix3 (0 : Fin 1) (0 : Fin 1) t) = ratioE (∑ N : Fin 1600, sigE (blockAt x5 t N)) (∑ N : Fin 1600, errE (sgOf x2) (blockAt x5 t N)) := by
  have hs : ∀ (h : Fin 2) (l : Fin 128), t.val = 128 * h.val + l.val →
      ∑ n : Fin 16, ∑ j ∈ Finset.range 100, sigOf (half (tile x5 x3 j) h) (ix2 n l) = ∑ N : Fin 1600, sigE (blockAt x5 t N) := fun h l ht =>
    sum_blocks (fun j n => sigOf (half (tile x5 x3 j) h) (ix2 n l)) _ fun T n => by rw [sigOf_apply, entries_eq x5 x3 h3 T.val h n l t ⟨16 * T.val + n.val, by omega⟩ ht rfl]
  have he : ∀ (h : Fin 2) (l : Fin 128), t.val = 128 * h.val + l.val →
      ∑ n : Fin 16, ∑ j ∈ Finset.range 100, errOf (sgOf x2) (half (tile x5 x3 j) h) (ix2 n l) = ∑ N : Fin 1600, errE (sgOf x2) (blockAt x5 t N) := fun h l ht =>
    sum_blocks (fun j n => errOf (sgOf x2) (half (tile x5 x3 j) h) (ix2 n l)) _ fun T n => by rw [errOf_apply, entries_eq x5 x3 h3 T.val h n l t ⟨16 * T.val + n.val, by omega⟩ ht rfl]
  unfold outRatio allRatios sumsAll
  have hsum := fun n l => sums_apply (sgOf x2) (tile x5 x3) n l 25
  generalize sumsFrom (sgOf x2) (tile x5 x3) (k0_pay1001, k0_pay1001, k0_pay1001, k0_pay1001) 25 = S at *
  by_cases h : t.val < 128
  · refine (if_pos h).trans ((ratio_low _ _ _).trans (congrArg₂ ratioE ?_ ?_))
    · refine Eq.trans (Finset.sum_congr rfl fun n _ => (hsum n _).1) (hs 0 _ ?_)
      show t.val = 128 * 0 + t.val % 128; omega
    · refine Eq.trans (Finset.sum_congr rfl fun n _ => (hsum n _).2.1) (he 0 _ ?_)
      show t.val = 128 * 0 + t.val % 128; omega
  · refine (if_neg h).trans ((ratio_high _ _ _).trans (congrArg₂ ratioE ?_ ?_))
    · refine Eq.trans (Finset.sum_congr rfl fun n _ => (hsum n _).2.2.1) (hs 1 _ ?_)
      show t.val = 128 * 1 + t.val % 128; omega
    · refine Eq.trans (Finset.sum_congr rfl fun n _ => (hsum n _).2.2.2) (he 1 _ ?_)
      show t.val = 128 * 1 + t.val % 128; omega

end Cert.KernelIdeal.Quant

end
-- ==== Proof.QuantRef.lean ====
/-
  WHAT THE REFERENCE COMPUTES, index by index: each of its five results as a function of the block's sixteen entries and the
  global scale.
-/
module

public import proofs.«01_k».proof.Proof.Gen.ReferenceIdeal.Value
public import proofs.«01_k».proof.Proof.Nvfp4
public import Idealize.ShloMosaic.Lib.Pointwise

@[expose] public section

set_option maxRecDepth 8192
set_option maxHeartbeats 1000000

noncomputable section

open Idealize.ShloMosaic Idealize.ShloMosaic.TcCoe Cert.Nvfp4

namespace Cert.ReferenceIdeal.Quant

open Cert.ReferenceIdeal Cert.ReferenceIdeal.Gen

/-- The entries of block `n` of token `(b, s)`. -/
def blockOf (x : Vec Ideal S2x4096x25600 .bf16) (b : Fin 2) (s : Fin 4096) (n : Fin 1600) : Fin 16 → EReal :=
  fun k => x (ix3 b s (⟨16 * n.val + k.val, by omega⟩ : Fin 25600))

/-- The global scale. -/
def sgOf (g : Vec Ideal S1x1 .f32) : EReal := g (ix2 (0 : Fin 1) (0 : Fin 1))

variable (x : Vec Ideal S2x4096x25600 .bf16) (g : Vec Ideal S1x1 .f32) (b : Fin 2) (s : Fin 4096) (n : Fin 1600) (k : Fin 16) (p : Fin 8)

theorem pay6_apply : k0_pay6 x (ix4 b s n k) = blockOf x b s n k := by
  unfold k0_pay6
  rw [shapeCast_apply _ _ _ (ix3 b s (⟨16 * n.val + k.val, by omega⟩ : Fin 25600)) (by
    simp only [Shape.rowMajor_val_three, Shape.rowMajor_val_four]
    show (b.val * 4096 + s.val) * 25600 + (16 * n.val + k.val) = ((b.val * 4096 + s.val) * 1600 + n.val) * 16 + k.val
    omega)]
  rfl

theorem pay5_apply : k0_pay5 g = sgOf g := by
  pointwise [k0_pay5]
  rfl

theorem pay7_apply : k0_pay7 x g (ix3 b s n) = scaleE (sgOf g) (bmax (blockOf x b s n)) := by
  pointwise [k0_pay7]
  simp only [pay6_apply, pay5_apply]
  rfl

theorem pay8_apply : k0_pay8 x g (ix4 b s n k) = vE (sgOf g) (blockOf x b s n) k := by
  pointwise [k0_pay8]
  simp only [pay6_apply, pay5_apply, pay7_apply]
  rfl

theorem pay9_apply : k0_pay9 x g (ix4 b s n k) = absE (vE (sgOf g) (blockOf x b s n) k) := by
  pointwise [k0_pay9]
  rw [pay8_apply]
  rfl

theorem pay12_at (j : Fin 12800) :
    k0_pay12 (k0_pay8 x g) (k0_pay9 x g) (k0_pay10 x g) (k0_pay11 x g) (ix3 b s j)
      = byteB (vE (sgOf g) (blockOf x b s ⟨j.val / 8, by omega⟩) (ev ⟨j.val % 8, by omega⟩)) (vE (sgOf g) (blockOf x b s ⟨j.val / 8, by omega⟩) (od ⟨j.val % 8, by omega⟩)) := by
  pointwise [k0_pay12, k0_pay10, k0_pay11]
  simp only [pay8_apply, pay9_apply]
  rfl

theorem pay12_apply (j : Fin 12800) (hp : j.val = 8 * n.val + p.val) :
    k0_pay12 (k0_pay8 x g) (k0_pay9 x g) (k0_pay10 x g) (k0_pay11 x g) (ix3 b s j)
      = byteB (vE (sgOf g) (blockOf x b s n) (ev p)) (vE (sgOf g) (blockOf x b s n) (od p)) := by
  rw [pay12_at, show (⟨j.val / 8, by omega⟩ : Fin 1600) = n from Fin.ext (by show j.val / 8 = n.val; omega),
    show (⟨j.val % 8, by omega⟩ : Fin 8) = p from Fin.ext (by show j.val % 8 = p.val; omega)]

theorem pay14_apply : k0_pay14 (k0_pay8 x g) (k0_pay9 x g) (k0_pay10 x g) (k0_pay11 x g) (ix4 b s n p)
      = byteB (vE (sgOf g) (blockOf x b s n) (ev p)) (vE (sgOf g) (blockOf x b s n) (od p)) := by
  unfold k0_pay14
  rw [shapeCast_apply _ _ _ (ix3 b s (⟨8 * n.val + p.val, by omega⟩ : Fin 12800)) (by
    simp only [Shape.rowMajor_val_three, Shape.rowMajor_val_four]
    show (b.val * 4096 + s.val) * 12800 + (8 * n.val + p.val) = ((b.val * 4096 + s.val) * 1600 + n.val) * 8 + p.val
    omega)]
  exact pay12_apply x g b s n p _ rfl

/-- What the codes of a block stand for, the even entries. -/
theorem pay20_apply : k0_pay20 (k0_pay5 g) (k0_pay13 (k0_pay7 x g)) (k0_pay15 (k0_pay8 x g) (k0_pay9 x g) (k0_pay10 x g) (k0_pay11 x g)) (k0_pay17 (k0_pay8 x g) (k0_pay9 x g) (k0_pay10 x g) (k0_pay11 x g)) (k0_pay18 (k0_pay8 x g) (k0_pay9 x g) (k0_pay10 x g) (k0_pay11 x g)) (k0_pay19 (F := Ideal)) (ix4 b s n p)
      = e2m1E (vE (sgOf g) (blockOf x b s n) (ev p)) * denE (sgOf g) (blockOf x b s n) := by
  pointwise [k0_pay20, k0_pay13, k0_pay15, k0_pay17, k0_pay18, k0_pay19]
  simp only [pay14_apply, pay7_apply, pay5_apply]
  rw [← byte_low _ (vE (sgOf g) (blockOf x b s n) (od p)), denE, ← mul_assoc]
  rfl

/-- The other half: the odd entries, as the error takes them. -/
theorem odd_apply : Scalar.select (IntOp.cmpi CmpIPredicate.ne (IntOp.andi (k0_pay16 (k0_pay8 x g) (k0_pay9 x g) (k0_pay10 x g) (k0_pay11 x g) (ix4 b s n p)) 8#32) 0#32)
        (0 - k0_pay21 (F := Ideal) (k0_pay16 (k0_pay8 x g) (k0_pay9 x g) (k0_pay10 x g) (k0_pay11 x g)) (ix4 b s n p)) (k0_pay21 (F := Ideal) (k0_pay16 (k0_pay8 x g) (k0_pay9 x g) (k0_pay10 x g) (k0_pay11 x g)) (ix4 b s n p))
          * k0_pay13 (k0_pay7 x g) (ix4 b s n (0 : Fin 1)) * sgOf g
      = e2m1E (vE (sgOf g) (blockOf x b s n) (od p)) * denE (sgOf g) (blockOf x b s n) := by
  pointwise [k0_pay21, k0_pay13, k0_pay16]
  simp only [pay14_apply, pay7_apply]
  rw [← byte_high (vE (sgOf g) (blockOf x b s n) (ev p)), denE, ← mul_assoc]
  rfl

theorem pay22_apply : k0_pay22 (k0_pay6 x) (ix3 b s n) = sigE (blockOf x b s n) := by
  pointwise [k0_pay22]
  simp only [pay6_apply]
  rfl

abbrev shift8 (x : Vec Ideal S2x4096x25600 .bf16) (g : Vec Ideal S1x1 .f32) := k0_pay16 (k0_pay8 x g) (k0_pay9 x g) (k0_pay10 x g) (k0_pay11 x g)
abbrev even8 (x : Vec Ideal S2x4096x25600 .bf16) (g : Vec Ideal S1x1 .f32) := k0_pay20 (k0_pay5 g) (k0_pay13 (k0_pay7 x g)) (k0_pay15 (k0_pay8 x g) (k0_pay9 x g) (k0_pay10 x g) (k0_pay11 x g)) (k0_pay17 (k0_pay8 x g) (k0_pay9 x g) (k0_pay10 x g) (k0_pay11 x g)) (k0_pay18 (k0_pay8 x g) (k0_pay9 x g) (k0_pay10 x g) (k0_pay11 x g)) (k0_pay19 (F := Ideal))

theorem pay23_apply : k0_pay23 (k0_pay5 g) (k0_pay6 x) (k0_pay13 (k0_pay7 x g)) (shift8 x g) (even8 x g) (k0_pay21 (F := Ideal) (shift8 x g)) 8#32 (ix3 b s n)
      = errE (sgOf g) (blockOf x b s n) := by
  pointwise [k0_pay23]
  simp only [pay6_apply, pay20_apply, pay5_apply, odd_apply]
  exact sum_pairs fun k => resE (sgOf g) (blockOf x b s n) k * resE (sgOf g) (blockOf x b s n) k

theorem pay24_apply : k0_pay24 (k0_pay5 g) (k0_pay6 x) (k0_pay13 (k0_pay7 x g)) (shift8 x g) (even8 x g) (k0_pay21 (F := Ideal) (shift8 x g)) 8#32 (ix3 b (0 : Fin 1) s)
      = ratioE (∑ n : Fin 1600, sigE (blockOf x b s n)) (∑ n : Fin 1600, errE (sgOf g) (blockOf x b s n)) := by
  pointwise [k0_pay24]
  simp only [pay22_apply, pay23_apply]
  rfl

/-! ## The five results -/

theorem hz1 : (![0, 0, 0] : Fin 3 → ℕ) = fun _ => 0 := funext fun a => by fin_cases a <;> rfl
theorem hz2 : (![0, 0] : Fin 2 → ℕ) = fun _ => 0 := funext fun a => by fin_cases a <;> rfl

theorem ld_x : View.ld x r0_0 = x := View.ld_unit_zero (S := S2x4096x25600) hz1 _ x
theorem ld_g : View.ld g r0_1 = g := View.ld_unit_zero (S := S1x1) hz2 _ g

theorem out2_apply : out0_2 g x (ix3 b (0 : Fin 1) s) = ratioE (∑ n : Fin 1600, sigE (blockOf x b s n)) (∑ n : Fin 1600, errE (sgOf g) (blockOf x b s n)) := by
  unfold_out out0_2
  rw [ld_x, ld_g, View.canon_unit_zero (S := S2x1x4096) hz1]
  exact pay24_apply x g b s
theorem out3_apply : out0_3 g x (ix3 b n s) = sigE (blockOf x b s n) := by
  unfold_out out0_3
  rw [ld_x, View.canon_unit_zero (S := S2x1600x4096) hz1]
  pointwise [k0_pay1]
  exact pay22_apply x b s n
theorem out4_apply : out0_4 g x (ix3 b n s) = errE (sgOf g) (blockOf x b s n) := by
  unfold_out out0_4
  rw [ld_x, ld_g, View.canon_unit_zero (S := S2x1600x4096) hz1]
  pointwise [k0_pay2]
  exact pay23_apply x g b s n
theorem out6_apply : out0_6 g x (ix3 b n s) = scaleE (sgOf g) (bmax (blockOf x b s n)) := by
  unfold_out out0_6
  rw [ld_x, ld_g, View.canon_unit_zero (S := S2x1600x4096) hz1]
  pointwise [k0_pay4]
  exact pay7_apply x g b s n
theorem out5_apply (r : Fin 8192) (j : Fin 12800) (hr : r.val = 4096 * b.val + s.val) (hj : j.val = 8 * n.val + p.val) :
    out0_5 g x (ix2 r j) = BitVec.setWidth 8 (byteB (vE (sgOf g) (blockOf x b s n) (ev p)) (vE (sgOf g) (blockOf x b s n) (od p))) := by
  unfold_out out0_5
  rw [ld_x, ld_g, View.canon_unit_zero (S := S8192x12800) hz2]
  unfold k0_pay3
  have h := pay12_apply x g b s n p j hj
  revert h
  generalize k0_pay12 (k0_pay8 x g) (k0_pay9 x g) (k0_pay10 x g) (k0_pay11 x g) = w
  intro h
  rw [← h]
  show BitVec.setWidth 8 (shapeCast S8192x12800 w shapeCasts_S2x4096x12800_S8192x12800 (ix2 r j)) = _
  rw [shapeCast_apply _ _ _ (ix3 b s j) (by
    simp only [Shape.rowMajor_val_two, Shape.rowMajor_val_three]
    show (b.val * 4096 + s.val) * 12800 + j.val = r.val * 12800 + j.val
    omega)]

end Cert.ReferenceIdeal.Quant

end
-- ==== Proof.PermEntries.lean ====
/-
  THE PERMUTATION'S CONSTANT. Its 65536 entries are given as a tree of matches; each is what one rule says of its place.
-/
module

public import proofs.«01_k».proof.KernelIdeal

@[expose] public section

set_option maxRecDepth 100000
set_option maxHeartbeats 4000000

noncomputable section

open Idealize.ShloMosaic

namespace Cert.KernelIdeal.Quant

open Cert.KernelIdeal

/-- The `j`-th entry of the `b`-th half of a row: row `b / 2` has its 1 in column `16 (b / 2 mod 16) + b / 2 / 16`. -/
def entry (b j : Nat) : BitVec 16 :=
  cond (Nat.beq (Nat.add j (Nat.mul 128 (Nat.mod b 2))) (Nat.add (Nat.mul 16 (Nat.mod (Nat.div b 2) 16)) (Nat.div (Nat.div b 2) 16))) 0x3F80#16 0x0000#16

/-- A choice among 128 values, and among four. -/
def pick128 (f : Nat → BitVec 16) (x : Nat) : BitVec 16 := match x with
  | 0 => f 0 | 1 => f 1 | 2 => f 2 | 3 => f 3 | 4 => f 4 | 5 => f 5 | 6 => f 6 | 7 => f 7 | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23 | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39 | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55 | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71 | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87 | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103 | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119 | 120 => f 120 | 121 => f 121 | 122 => f 122 | 123 => f 123 | 124 => f 124 | 125 => f 125 | 126 => f 126 | 127 => f 127
  | _ => 0#16
def pick4 (f : Nat → BitVec 16) (x : Nat) : BitVec 16 := match x with
  | 0 => f 0 | 1 => f 1 | 2 => f 2 | 3 => f 3 | _ => 0#16

theorem pick128_eq (f : Nat → BitVec 16) : ∀ (x : Nat) (_ : x < 128), pick128 f x = f x
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | n + 128, h => absurd h (by omega)
theorem pick4_eq (f : Nat → BitVec 16) : ∀ (x : Nat) (_ : x < 4), pick4 f x = f x
  | 0, _ => rfl
  | 1, _ => rfl
  | 2, _ => rfl
  | 3, _ => rfl
  | n + 4, h => absurd h (by omega)

theorem table0_eq (i : Nat) : lit0t1_0 i = pick128 (fun d => pick128 (entry (Nat.add 0 d)) (i % 128)) (i / 128 % 128) := rfl
theorem table1_eq (i : Nat) : lit0t1_1 i = pick128 (fun d => pick128 (entry (Nat.add 128 d)) (i % 128)) (i / 128 % 128) := rfl
theorem table2_eq (i : Nat) : lit0t1_2 i = pick128 (fun d => pick128 (entry (Nat.add 256 d)) (i % 128)) (i / 128 % 128) := rfl
theorem table3_eq (i : Nat) : lit0t1_3 i = pick128 (fun d => pick128 (entry (Nat.add 384 d)) (i % 128)) (i / 128 % 128) := rfl
theorem tree_eq (i : Nat) : lit0t i = pick4 (fun a => pick128 (fun d => pick128 (entry (Nat.add (Nat.mul 128 a) d)) (i % 128)) (i / 128 % 128)) (i / 16384) := by
  have e : lit0t i = pick4 (fun a => match a with | 0 => lit0t1_0 i | 1 => lit0t1_1 i | 2 => lit0t1_2 i | 3 => lit0t1_3 i | _ => 0#16) (i / 16384) := rfl
  rw [e, table0_eq, table1_eq, table2_eq, table3_eq]
  rfl

/-- Row `R` of the constant has its 1 in column `16 (R mod 16) + R / 16`. -/
theorem lit0_entry (R k : Fin 256) : lit0t (256 * R.val + k.val) = if k.val = 16 * (R.val % 16) + R.val / 16 then 0x3F80#16 else 0#16 := by
  have hR := R.isLt
  have hk := k.isLt
  rw [tree_eq, pick4_eq _ _ (by omega), pick128_eq _ _ (by omega), pick128_eq _ _ (by omega)]
  unfold entry
  have e1 : Nat.add (Nat.mul 128 ((256 * R.val + k.val) / 16384)) ((256 * R.val + k.val) / 128 % 128) = 2 * R.val + k.val / 128 := by
    show 128 * ((256 * R.val + k.val) / 16384) + (256 * R.val + k.val) / 128 % 128 = 2 * R.val + k.val / 128
    omega
  rw [e1]
  have e2 : Nat.add ((256 * R.val + k.val) % 128) (Nat.mul 128 (Nat.mod (2 * R.val + k.val / 128) 2)) = k.val := by
    show (256 * R.val + k.val) % 128 + 128 * ((2 * R.val + k.val / 128) % 2) = k.val
    omega
  have e3 : Nat.div (2 * R.val + k.val / 128) 2 = R.val := by
    show (2 * R.val + k.val / 128) / 2 = R.val
    omega
  rw [e2, e3]
  show cond (Nat.beq k.val (16 * (R.val % 16) + R.val / 16)) 0x3F80#16 0#16 = _
  by_cases h : k.val = 16 * (R.val % 16) + R.val / 16
  · rw [if_pos h, ← h, Nat.beq_refl]; rfl
  · rw [if_neg h, show Nat.beq k.val (16 * (R.val % 16) + R.val / 16) = false from Bool.eq_false_iff.mpr fun e => h (Nat.eq_of_beq_eq_true e)]; rfl

end Cert.KernelIdeal.Quant

end
-- ==== Proof.QuantValue.lean ====
/-
  THE QUANTISING CALL'S FIVE RESULTS are the reference's: the arrays the call is given, the blocks it reads of them, and its results
  block by block.
-/
module

public import proofs.«01_k».proof.Proof.QuantBlockValue
public import proofs.«01_k».proof.Proof.QuantRef
public import proofs.«01_k».proof.Proof.PermEntries
public import Idealize.ShloMosaic.Lib.Pipeline.ValueKit

@[expose] public section

set_option maxRecDepth 8192
set_option maxHeartbeats 1000000

noncomputable section

open Idealize.ShloMosaic Idealize.ShloMosaic.TcCoe Idealize.SL.Sem Cert.Nvfp4

namespace Cert.KernelIdeal.Quant

open Cert.KernelIdeal Cert.KernelIdeal.Gen

variable (m : (ℓ : Loc nD τ sig) → Buf (Elt Ideal) ℓ) (c : Dev nD)

/-! ## The arrays the call is given -/

theorem V_tokens : V m c main_v0 = shapeCast S8192x25600 (m ((c : Thread nD τ).loc main_arg1)) shapeCasts_S2x4096x25600_S8192x25600 := by
  show StableHlo.after hostOps0 _ (Proc.devRef .tc main_v0) = _
  after_results
  rfl
theorem V_lanes : V m c main_v1 = shapeCast S1x128 (fun i => lit1 (S128.rowMajor i)) shapeCasts_S128_S1x128 := by
  show StableHlo.after hostOps0 _ (Proc.devRef .tc main_v1) = _
  after_results
  rfl
/-- The permutation, as the host states it. -/
def perm : FVec Ideal S256x256 .bf16 := fun i => FloatOps.ofBits .bf16 (lit0 (S256x256.rowMajor i))
theorem V_perm : V m c main_cst = perm := by
  show StableHlo.after hostOps0 _ (Proc.devRef .tc main_cst) = _
  after_results
  rfl
theorem V_scale : V m c main_arg0 = m ((c : Thread nD τ).loc main_arg0) := by
  show StableHlo.after hostOps0 _ (Proc.devRef .tc main_arg0) = _
  after_results
  try rfl

theorem tokens_apply (b : Fin 2) (s : Fin 4096) (R : Fin 8192) (hR : R.val = 4096 * b.val + s.val) (l : Fin 25600) :
    (V m c main_v0 : Vec Ideal S8192x25600 .bf16) (ix2 R l) = m ((c : Thread nD τ).loc main_arg1) (ix3 b s l) := by
  rw [V_tokens]
  refine shapeCast_apply _ _ _ _ ?_
  have h3 := Shape.rowMajor_val_three (d := ![2, 4096, 25600]) (ix3 b s l)
  have h2 := Shape.rowMajor_val_two (d := ![8192, 25600]) (ix2 R l)
  refine h3.trans (Eq.trans ?_ h2.symm)
  show (b.val * 4096 + s.val) * 25600 + l.val = R.val * 25600 + l.val
  omega

theorem c_oneb : Ideal.ofBits FTy.bf16 0x3F80#16 = 1 := by
  simp [Ideal.ofBits, Ideal.ieee]; rw [← EReal.coe_mul]; norm_num
theorem c_zerob : Ideal.ofBits FTy.bf16 0#16 = 0 := by
  simp [Ideal.ofBits, Ideal.ieee]

theorem turns_perm : Turns perm := by
  intro R k
  have e : (S256x256.rowMajor (ix2 R k)).val = 256 * R.val + k.val := by
    refine (Shape.rowMajor_val_two (d := ![256, 256]) (ix2 R k)).trans ?_
    show R.val * 256 + k.val = 256 * R.val + k.val
    omega
  have h : lit0 (S256x256.rowMajor (ix2 R k)) = if k.val = 16 * (R.val % 16) + R.val / 16 then 0x3F80#16 else 0#16 := by
    refine Eq.trans ?_ (lit0_entry R k)
    exact congrArg lit0t e
  show Ideal.ofBits FTy.bf16 (lit0 (S256x256.rowMajor (ix2 R k))) = _
  rw [h]
  split
  · exact c_oneb
  · exact c_zerob

theorem takes_lanes : Takes (shapeCast S1x128 (fun i => lit1 (S128.rowMajor i)) shapeCasts_S128_S1x128) := by
  intro k
  have h : ∀ k : Fin 128, lit1 k = BitVec.ofNat 32 (laneIdx k.val) := by decide +kernel
  pointwise
  exact (congrArg lit1 (Fin.ext (Shape.rowMajor_val_one (d := ![128]) (ix1 k)))).trans (h k)

/-! ## The blocks the call reads -/

theorem iblk_tokens (t : Fin cfg0.N) (r : Fin 256) (l : Fin 25600) :
    (iblk m c 3 t : Vec Ideal S256x25600 .bf16) (ix2 r l)
      = V m c main_v0 (ix2 (⟨256 * t.val + r.val, by have := lt_of_lt_of_eq t.isLt N_0; have := r.isLt; omega⟩ : Fin 8192) l) := by
  have idx : ∀ t : Fin cfg0.N, win0_3.index t (0 : Fin 2) = t.val ∧ win0_3.index t (1 : Fin 2) = 0 := by decide +kernel
  blk_ext [iblk, idx t]
theorem iblk_perm (t : Fin cfg0.N) : (iblk m c 1 t : Vec Ideal S256x256 .bf16) = V m c main_cst := by
  have idx : ∀ t : Fin cfg0.N, win0_1.index t (0 : Fin 2) = 0 ∧ win0_1.index t (1 : Fin 2) = 0 := by decide +kernel
  funext y
  blk_ext [iblk, idx t]
theorem iblk_lanes (t : Fin cfg0.N) : (iblk m c 2 t : Vec Ideal S1x128 .i32) = V m c main_v1 := by
  have idx : ∀ t : Fin cfg0.N, win0_2.index t (0 : Fin 2) = 0 ∧ win0_2.index t (1 : Fin 2) = 0 := by decide +kernel
  funext y
  blk_ext [iblk, idx t]
theorem iblk_scale (t : Fin cfg0.N) : (iblk m c 0 t : Vec Ideal S1x1 .f32) = V m c main_arg0 := by
  have idx : ∀ t : Fin cfg0.N, win0_0.index t (0 : Fin 2) = 0 ∧ win0_0.index t (1 : Fin 2) = 0 := by decide +kernel
  funext y
  blk_ext [iblk, idx t]

theorem perm_turns (t : Fin cfg0.N) : Turns (iblk m c 1 t) := by
  rw [iblk_perm, V_perm]; exact turns_perm
theorem lanes_take (t : Fin cfg0.N) : Takes (iblk m c 2 t) := by
  rw [iblk_lanes, V_lanes]; exact takes_lanes
theorem scale_eq (t : Fin cfg0.N) : sgOf (iblk m c 0 t : Vec Ideal S1x1 .f32) = m ((c : Thread nD τ).loc main_arg0) (ix2 (0 : Fin 1) (0 : Fin 1)) := by
  rw [iblk_scale, V_scale]
  refine congrArg (m ((c : Thread nD τ).loc main_arg0)) (funext fun a => Fin.ext ?_)
  match a with
  | ⟨0, _⟩ => exact (Nat.lt_one_iff.mp (Fin.isLt _)).trans rfl
  | ⟨1, _⟩ => exact (Nat.lt_one_iff.mp (Fin.isLt _)).trans rfl

/-- Block `N` of token `r` of point `t` is block `N` of token `256 (t mod 16) + r` of batch `t / 16`. -/
theorem block_eq (t : Fin cfg0.N) (r : Fin 256) (N : Fin 1600) (b : Fin 2) (s : Fin 4096) (h : 256 * t.val + r.val = 4096 * b.val + s.val) :
    blockAt (iblk m c 3 t) r N = Cert.ReferenceIdeal.Quant.blockOf (m ((c : Thread nD τ).loc main_arg1)) b s N := by
  funext k
  unfold blockAt
  rw [iblk_tokens, tokens_apply m c b s _ h]
  rfl

/-! ## The five results -/

/-- The reference's arguments: the global scale and the tokens as launched. -/
abbrev argScale : Vec Ideal S1x1 .f32 := m ((c : Thread nD τ).loc main_arg0)
abbrev argTokens : Vec Ideal S2x4096x25600 .bf16 := m ((c : Thread nD τ).loc main_arg1)

theorem scale_is (t : Fin cfg0.N) : sgOf (iblk m c 0 t : Vec Ideal S1x1 .f32) = Cert.ReferenceIdeal.Quant.sgOf (argScale m c) := scale_eq m c t

theorem ratio_at (t : Fin cfg0.N) (r : Fin 256) (b : Fin 2) (s : Fin 4096) (h : 256 * t.val + r.val = 4096 * b.val + s.val) :
    outRatio (iblk m c 0 t) (iblk m c 1 t) (iblk m c 3 t) (ix3 (0 : Fin 1) (0 : Fin 1) r) = Cert.ReferenceIdeal.Gen.out0_2 (argScale m c) (argTokens m c) (ix3 b (0 : Fin 1) s) := by
  refine Eq.trans ?_ (Cert.ReferenceIdeal.Quant.out2_apply (argTokens m c) (argScale m c) b s).symm
  refine (outRatio_apply (iblk m c 0 t) (iblk m c 3 t) (iblk m c 1 t) (perm_turns m c t) r).trans ?_
  rw [scale_is m c t, Finset.sum_congr rfl fun N _ => congrArg sigE (block_eq m c t r N b s h),
      Finset.sum_congr rfl fun N _ => congrArg (errE _) (block_eq m c t r N b s h)]

theorem ratio_array : (dats m 0 c).arrAt 4 cfg0.N = (Cert.ReferenceIdeal.Gen.out0_2 (argScale m c) (argTokens m c) : Vec Ideal S2x1x4096 .f32) := by
  have idx : ∀ t : Fin cfg0.N, win0_4.index t (0 : Fin 3) = t.val / 16 ∧ win0_4.index t (1 : Fin 3) = 0 ∧ win0_4.index t (2 : Fin 3) = t.val % 16 := by decide +kernel
  refine (dats m 0 c).arrAt_eq_of_covers 4 _ (by decide +kernel) fun t hf y => ?_
  blk_simp
  rw [after0_4]
  have ht : t.val < 32 := lt_of_lt_of_eq t.isLt N_0
  have hr : (y (2 : Fin 3)).val < 256 := (y (2 : Fin 3)).isLt
  have h0 : (y (0 : Fin 3)).val < 1 := (y (0 : Fin 3)).isLt
  have h1 : (y (1 : Fin 3)).val < 1 := (y (1 : Fin 3)).isLt
  have hy : y = (ix3 (0 : Fin 1) (0 : Fin 1) (⟨(y (2 : Fin 3)).val, hr⟩ : Fin 256) : S1x1x256.Idx) := by
    funext a
    match a with
    | ⟨0, _⟩ => exact Fin.ext (Nat.lt_one_iff.mp h0)
    | ⟨1, _⟩ => exact Fin.ext (Nat.lt_one_iff.mp h1)
    | ⟨2, _⟩ => rfl
  have he : (win0_4.blk t).view.emb y = (ix3 (⟨t.val / 16, by omega⟩ : Fin 2) (0 : Fin 1) (⟨256 * (t.val % 16) + (y (2 : Fin 3)).val, by omega⟩ : Fin 4096) : S2x1x4096.Idx) := by
    blk_ext [idx t]
  rw [he]
  refine (congrArg _ hy).trans ?_
  exact ratio_at m c t _ _ _ (by show 256 * t.val + (y (2 : Fin 3)).val = 4096 * (t.val / 16) + (256 * (t.val % 16) + (y (2 : Fin 3)).val); omega)

theorem signal_at (t : Fin cfg0.N) (r : Fin 256) (N : Fin 1600) (b : Fin 2) (s : Fin 4096) (h : 256 * t.val + r.val = 4096 * b.val + s.val) :
    outSignal (iblk m c 1 t) (iblk m c 3 t) (ix3 (0 : Fin 1) N r) = Cert.ReferenceIdeal.Gen.out0_3 (argScale m c) (argTokens m c) (ix3 b N s) := by
  refine Eq.trans ?_ (Cert.ReferenceIdeal.Quant.out3_apply (x := argTokens m c) (g := argScale m c) (b := b) (s := s) (n := N)).symm
  refine (outSignal_apply (iblk m c 3 t) (iblk m c 1 t) (perm_turns m c t) N r).trans ?_
  rw [block_eq m c t r N b s h]

theorem signal_array : (dats m 0 c).arrAt 5 cfg0.N = (Cert.ReferenceIdeal.Gen.out0_3 (argScale m c) (argTokens m c) : Vec Ideal S2x1600x4096 .f32) := by
  have idx : ∀ t : Fin cfg0.N, win0_5.index t (0 : Fin 3) = t.val / 16 ∧ win0_5.index t (1 : Fin 3) = 0 ∧ win0_5.index t (2 : Fin 3) = t.val % 16 := by decide +kernel
  refine (dats m 0 c).arrAt_eq_of_covers 5 _ (by decide +kernel) fun t hf y => ?_
  blk_simp
  rw [after0_5]
  have ht : t.val < 32 := lt_of_lt_of_eq t.isLt N_0
  have hr : (y (2 : Fin 3)).val < 256 := (y (2 : Fin 3)).isLt
  have h0 : (y (0 : Fin 3)).val < 1 := (y (0 : Fin 3)).isLt
  have h1 : (y (1 : Fin 3)).val < 1600 := (y (1 : Fin 3)).isLt
  have hy : y = (ix3 (0 : Fin 1) (⟨(y (1 : Fin 3)).val, h1⟩ : Fin 1600) (⟨(y (2 : Fin 3)).val, hr⟩ : Fin 256) : S1x1600x256.Idx) := by
    funext a
    match a with
    | ⟨0, _⟩ => exact Fin.ext (Nat.lt_one_iff.mp h0)
    | ⟨1, _⟩ => exact Fin.ext rfl
    | ⟨2, _⟩ => rfl
  have he : (win0_5.blk t).view.emb y = (ix3 (⟨t.val / 16, by omega⟩ : Fin 2) (⟨(y (1 : Fin 3)).val, h1⟩ : Fin 1600) (⟨256 * (t.val % 16) + (y (2 : Fin 3)).val, by omega⟩ : Fin 4096) : S2x1600x4096.Idx) := by
    blk_ext [idx t]
  rw [he]
  refine (congrArg _ hy).trans ?_
  exact signal_at m c t _ _ _ _ (by show 256 * t.val + (y (2 : Fin 3)).val = 4096 * (t.val / 16) + (256 * (t.val % 16) + (y (2 : Fin 3)).val); omega)

theorem error_at (t : Fin cfg0.N) (r : Fin 256) (N : Fin 1600) (b : Fin 2) (s : Fin 4096) (h : 256 * t.val + r.val = 4096 * b.val + s.val) :
    outError (iblk m c 0 t) (iblk m c 1 t) (iblk m c 3 t) (ix3 (0 : Fin 1) N r) = Cert.ReferenceIdeal.Gen.out0_4 (argScale m c) (argTokens m c) (ix3 b N s) := by
  refine Eq.trans ?_ (Cert.ReferenceIdeal.Quant.out4_apply (argTokens m c) (argScale m c) b s N).symm
  refine (outError_apply (iblk m c 0 t) (iblk m c 3 t) (iblk m c 1 t) (perm_turns m c t) N r).trans ?_
  rw [scale_is m c t, block_eq m c t r N b s h]

theorem error_array : (dats m 0 c).arrAt 6 cfg0.N = (Cert.ReferenceIdeal.Gen.out0_4 (argScale m c) (argTokens m c) : Vec Ideal S2x1600x4096 .f32) := by
  have idx : ∀ t : Fin cfg0.N, win0_6.index t (0 : Fin 3) = t.val / 16 ∧ win0_6.index t (1 : Fin 3) = 0 ∧ win0_6.index t (2 : Fin 3) = t.val % 16 := by decide +kernel
  refine (dats m 0 c).arrAt_eq_of_covers 6 _ (by decide +kernel) fun t hf y => ?_
  blk_simp
  rw [after0_6]
  have ht : t.val < 32 := lt_of_lt_of_eq t.isLt N_0
  have hr : (y (2 : Fin 3)).val < 256 := (y (2 : Fin 3)).isLt
  have h0 : (y (0 : Fin 3)).val < 1 := (y (0 : Fin 3)).isLt
  have h1 : (y (1 : Fin 3)).val < 1600 := (y (1 : Fin 3)).isLt
  have hy : y = (ix3 (0 : Fin 1) (⟨(y (1 : Fin 3)).val, h1⟩ : Fin 1600) (⟨(y (2 : Fin 3)).val, hr⟩ : Fin 256) : S1x1600x256.Idx) := by
    funext a
    match a with
    | ⟨0, _⟩ => exact Fin.ext (Nat.lt_one_iff.mp h0)
    | ⟨1, _⟩ => exact Fin.ext rfl
    | ⟨2, _⟩ => rfl
  have he : (win0_6.blk t).view.emb y = (ix3 (⟨t.val / 16, by omega⟩ : Fin 2) (⟨(y (1 : Fin 3)).val, h1⟩ : Fin 1600) (⟨256 * (t.val % 16) + (y (2 : Fin 3)).val, by omega⟩ : Fin 4096) : S2x1600x4096.Idx) := by
    blk_ext [idx t]
  rw [he]
  refine (congrArg _ hy).trans ?_
  exact error_at m c t _ _ _ _ (by show 256 * t.val + (y (2 : Fin 3)).val = 4096 * (t.val / 16) + (256 * (t.val % 16) + (y (2 : Fin 3)).val); omega)

theorem scale_at (t : Fin cfg0.N) (r : Fin 256) (N : Fin 1600) (b : Fin 2) (s : Fin 4096) (h : 256 * t.val + r.val = 4096 * b.val + s.val) :
    outScales (iblk m c 0 t) (iblk m c 1 t) (iblk m c 3 t) (ix3 (0 : Fin 1) N r) = Cert.ReferenceIdeal.Gen.out0_6 (argScale m c) (argTokens m c) (ix3 b N s) := by
  refine Eq.trans ?_ (Cert.ReferenceIdeal.Quant.out6_apply (argTokens m c) (argScale m c) b s N).symm
  refine (outScales_apply (iblk m c 0 t) (iblk m c 3 t) (iblk m c 1 t) (perm_turns m c t) N r).trans ?_
  rw [scale_is m c t, block_eq m c t r N b s h]

theorem scale_array : (dats m 0 c).arrAt 8 cfg0.N = (Cert.ReferenceIdeal.Gen.out0_6 (argScale m c) (argTokens m c) : Vec Ideal S2x1600x4096 .fp8e4m3) := by
  have idx : ∀ t : Fin cfg0.N, win0_8.index t (0 : Fin 3) = t.val / 16 ∧ win0_8.index t (1 : Fin 3) = 0 ∧ win0_8.index t (2 : Fin 3) = t.val % 16 := by decide +kernel
  refine (dats m 0 c).arrAt_eq_of_covers 8 _ (by decide +kernel) fun t hf y => ?_
  blk_simp
  rw [after0_8]
  have ht : t.val < 32 := lt_of_lt_of_eq t.isLt N_0
  have hr : (y (2 : Fin 3)).val < 256 := (y (2 : Fin 3)).isLt
  have h0 : (y (0 : Fin 3)).val < 1 := (y (0 : Fin 3)).isLt
  have h1 : (y (1 : Fin 3)).val < 1600 := (y (1 : Fin 3)).isLt
  have hy : y = (ix3 (0 : Fin 1) (⟨(y (1 : Fin 3)).val, h1⟩ : Fin 1600) (⟨(y (2 : Fin 3)).val, hr⟩ : Fin 256) : S1x1600x256.Idx) := by
    funext a
    match a with
    | ⟨0, _⟩ => exact Fin.ext (Nat.lt_one_iff.mp h0)
    | ⟨1, _⟩ => exact Fin.ext rfl
    | ⟨2, _⟩ => rfl
  have he : (win0_8.blk t).view.emb y = (ix3 (⟨t.val / 16, by omega⟩ : Fin 2) (⟨(y (1 : Fin 3)).val, h1⟩ : Fin 1600) (⟨256 * (t.val % 16) + (y (2 : Fin 3)).val, by omega⟩ : Fin 4096) : S2x1600x4096.Idx) := by
    blk_ext [idx t]
  rw [he]
  refine (congrArg _ hy).trans ?_
  exact scale_at m c t _ _ _ _ (by show 256 * t.val + (y (2 : Fin 3)).val = 4096 * (t.val / 16) + (256 * (t.val % 16) + (y (2 : Fin 3)).val); omega)

theorem codes_at (t : Fin cfg0.N) (r : Fin 256) (j : Fin 12800) (R : Fin 8192) (hR : R.val = 256 * t.val + r.val) :
    outCodes (iblk m c 0 t) (iblk m c 1 t) (iblk m c 2 t) (iblk m c 3 t) (ix2 r j) = Cert.ReferenceIdeal.Gen.out0_5 (argScale m c) (argTokens m c) (ix2 R j) := by
  have hj : j.val = 8 * (⟨j.val / 8, by omega⟩ : Fin 1600).val + (⟨j.val % 8, by omega⟩ : Fin 8).val := by show j.val = 8 * (j.val / 8) + j.val % 8; omega
  have hb : R.val = 4096 * (⟨R.val / 4096, by omega⟩ : Fin 2).val + (⟨R.val % 4096, by omega⟩ : Fin 4096).val := by show R.val = 4096 * (R.val / 4096) + R.val % 4096; omega
  refine Eq.trans ?_ (Cert.ReferenceIdeal.Quant.out5_apply (argTokens m c) (argScale m c) _ _ _ _ R j hb hj).symm
  refine (outCodes_apply (iblk m c 0 t) (iblk m c 3 t) (iblk m c 1 t) (perm_turns m c t) (iblk m c 2 t) (lanes_take m c t) r j _ _ hj).trans ?_
  rw [scale_is m c t, block_eq m c t r _ _ _ (hR.symm.trans hb)]

theorem codes_array : (dats m 0 c).arrAt 7 cfg0.N = (Cert.ReferenceIdeal.Gen.out0_5 (argScale m c) (argTokens m c) : Vec Ideal S8192x12800 .i8) := by
  have idx : ∀ t : Fin cfg0.N, win0_7.index t (0 : Fin 2) = t.val ∧ win0_7.index t (1 : Fin 2) = 0 := by decide +kernel
  refine (dats m 0 c).arrAt_eq_of_covers 7 _ (by decide +kernel) fun t hf y => ?_
  blk_simp
  rw [after0_7]
  have ht : t.val < 32 := lt_of_lt_of_eq t.isLt N_0
  have h0 : (y (0 : Fin 2)).val < 256 := (y (0 : Fin 2)).isLt
  have h1 : (y (1 : Fin 2)).val < 12800 := (y (1 : Fin 2)).isLt
  have hy : y = (ix2 (⟨(y (0 : Fin 2)).val, h0⟩ : Fin 256) (⟨(y (1 : Fin 2)).val, h1⟩ : Fin 12800) : S256x12800.Idx) := by
    funext a
    match a with
    | ⟨0, _⟩ => rfl
    | ⟨1, _⟩ => rfl
  have he : (win0_7.blk t).view.emb y = (ix2 (⟨256 * t.val + (y (0 : Fin 2)).val, by omega⟩ : Fin 8192) (⟨(y (1 : Fin 2)).val, h1⟩ : Fin 12800) : S8192x12800.Idx) := by
    blk_ext [idx t]
  rw [he]
  refine (congrArg _ hy).trans ?_
  exact codes_at m c t _ _ _ rfl

end Cert.KernelIdeal.Quant

end
-- ==== Proof.lean ====
/-
  The proof of `Cert.Claim`: the frames of the two calls as printed and over the reals, the frames of the two references, and
  the equality over the extended reals of the amax call with its reference and of the quantising call with its own.
-/
module

public import proofs.«01_k».proof.Defs
public import proofs.«01_k».proof.Proof.Gen.Amax
public import proofs.«01_k».proof.Proof.Gen.Amax.Frame
public import proofs.«01_k».proof.Proof.Gen.Kernel
public import proofs.«01_k».proof.Proof.Gen.Kernel.Launch
public import proofs.«01_k».proof.Proof.Gen.Kernel.Frame
public import proofs.«01_k».proof.Proof.Gen.AmaxIdeal
public import proofs.«01_k».proof.Proof.Gen.AmaxIdeal.Frame
public import proofs.«01_k».proof.Proof.Gen.AmaxIdeal.Value
public import proofs.«01_k».proof.Proof.Gen.KernelIdeal
public import proofs.«01_k».proof.Proof.Gen.KernelIdeal.Frame
public import proofs.«01_k».proof.Proof.Gen.AmaxReferenceIdeal
public import proofs.«01_k».proof.Proof.Gen.AmaxReferenceIdeal.Run
public import proofs.«01_k».proof.Proof.Gen.AmaxReferenceIdeal.Read
public import proofs.«01_k».proof.Proof.Gen.ReferenceIdeal
public import proofs.«01_k».proof.Proof.Gen.ReferenceIdeal.Frame
public import proofs.«01_k».proof.Proof.Gen.ReferenceIdeal.Value
public import proofs.«01_k».proof.Proof.AmaxValue
public import proofs.«01_k».proof.Proof.QuantKernel
public import proofs.«01_k».proof.Proof.QuantValue
public import Idealize.ShloMosaic.Lib.Quiescent
public import Idealize.ShloMosaic.Adequacy
public import Idealize.ShloMosaic.Init

@[expose] public section

noncomputable section

open Idealize.ShloMosaic Idealize.ShloMosaic.TcCoe Idealize.SL.Sem

/-- The amax call and its reference have one result. -/
theorem Cert.Proof.amax_algebraic : Cert.algebraic_AmaxIdeal_AmaxReferenceIdeal := by
  intro m g m' g' _ hargs
  refine ⟨fun c => Cert.AmaxIdeal.Value.G1 m c, Cert.AmaxIdeal.Value.run m g, ?_⟩
  refine (θ_run _ _ _).mono (fun r h c => ⟨?_, (h c).2⟩) (Cert.AmaxReferenceIdeal.Value.run m' g')
  refine (h c).1.trans (Eq.trans ?_ (Cert.AmaxIdeal.Body.result_eq m c).symm)
  rw [hargs c]
  rfl

/-- The amax reference's frame. -/
theorem Cert.Proof.amax_reference_frame : Cert.quiescent_AmaxReferenceIdeal := fun m g _ =>
  (θ_run _ _ _).mono (fun r h => ⟨fun c => (h.1 c).2, h.2⟩)
    (θ_run_and (Cert.AmaxReferenceIdeal.Value.run m g) ((θ_run _ _ _).mono (fun r _ => sem_eq_zero_of_no_sems (by decide) r.2) (Cert.AmaxReferenceIdeal.Value.run m g)))

/-- The quantising call and its reference have five results. -/
theorem Cert.Proof.quant_algebraic : Cert.algebraic_KernelIdeal_ReferenceIdeal := by
  intro m g m' g' _ hargs
  refine ⟨fun c => Cert.ReferenceIdeal.Gen.out0_2 (Cert.KernelIdeal.Quant.argScale m c) (Cert.KernelIdeal.Quant.argTokens m c),
    fun c => Cert.ReferenceIdeal.Gen.out0_3 (Cert.KernelIdeal.Quant.argScale m c) (Cert.KernelIdeal.Quant.argTokens m c),
    fun c => Cert.ReferenceIdeal.Gen.out0_4 (Cert.KernelIdeal.Quant.argScale m c) (Cert.KernelIdeal.Quant.argTokens m c),
    fun c => Cert.ReferenceIdeal.Gen.out0_5 (Cert.KernelIdeal.Quant.argScale m c) (Cert.KernelIdeal.Quant.argTokens m c),
    fun c => Cert.ReferenceIdeal.Gen.out0_6 (Cert.KernelIdeal.Quant.argScale m c) (Cert.KernelIdeal.Quant.argTokens m c), ?_, ?_⟩
  · refine (θ_run _ _ _).mono (fun r h c => ⟨?_, ?_, ?_, ?_, ?_, h.2 c⟩)
      (θ_run_and (Cert.KernelIdeal.Quant.run_main m g) (Cert.KernelIdeal.Quant.unchanged m g))
    · exact ((h.1 c).1 4).trans (Cert.KernelIdeal.Quant.ratio_array m c)
    · exact ((h.1 c).1 5).trans (Cert.KernelIdeal.Quant.signal_array m c)
    · exact ((h.1 c).1 6).trans (Cert.KernelIdeal.Quant.error_array m c)
    · exact ((h.1 c).1 7).trans (Cert.KernelIdeal.Quant.codes_array m c)
    · exact ((h.1 c).1 8).trans (Cert.KernelIdeal.Quant.scale_array m c)
  · refine (θ_run _ _ _).mono (fun r h c => ?_) (Cert.ReferenceIdeal.Value.run m' g')
    obtain ⟨h2, h3, h4, h5, h6, hk⟩ := h c
    rw [(hargs c).1, (hargs c).2] at h2 h3 h4 h5 h6
    exact ⟨h2.trans (Cert.ReferenceIdeal.Value.out2_eq _ _).symm, h3.trans (Cert.ReferenceIdeal.Value.out3_eq _ _).symm,
      h4.trans (Cert.ReferenceIdeal.Value.out4_eq _ _).symm, h5.trans (Cert.ReferenceIdeal.Value.out5_eq _ _).symm,
      h6.trans (Cert.ReferenceIdeal.Value.out6_eq _ _).symm, hk⟩

theorem Cert.Proof.claim : Cert.Claim :=
  ⟨Cert.Amax.Gen.facts, Cert.AmaxIdeal.Gen.facts, Cert.Kernel.Gen.facts, Cert.KernelIdeal.Gen.facts, Cert.AmaxReferenceIdeal.Gen.facts, Cert.ReferenceIdeal.Gen.facts,
    fun m g _ => Cert.Amax.Gen.frame m g,
    fun m g _ => Cert.AmaxIdeal.Gen.frame m g,
    fun m g _ => Cert.Kernel.Quant.frame m g,
    fun m g _ => Cert.KernelIdeal.Quant.frame m g,
    Cert.Proof.amax_reference_frame,
    fun m g _ => Cert.ReferenceIdeal.Gen.frame m g,
    trivial, trivial,
    Cert.Proof.amax_algebraic,
    Cert.Proof.quant_algebraic⟩

end
